-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_keeps_Kernel [hPre_keeps_Kernel : Cert.Pre_keeps_Kernel.Facts] (m : (ℓ : Loc Cert.Kernel.nD Cert.Kernel.τ Cert.Kernel.sig) → Buf (Elt Bits) ℓ) : Prop :=
  ∀ c : Dev Cert.Kernel.nD,
    (Cert.Pre_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_keeps_Kernel [hPre_keeps_Kernel : Cert.Pre_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_keeps_ReferenceIdeal [hPre_keeps_ReferenceIdeal : Cert.Pre_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_keeps_Kernel [hKernel : Cert.Kernel.Facts] [hPre_keeps_Kernel : Cert.Pre_keeps_Kernel.Facts] : Prop :=
  ∀ (m : (ℓ : Loc Cert.Kernel.nD Cert.Kernel.τ Cert.Kernel.sig) → Buf (Elt Bits) ℓ) (g : Dev Cert.Kernel.nD → PrngReg), Pre_Kernel_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_keeps_Kernel [hKernelIdeal : Cert.KernelIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_keeps_ReferenceIdeal [hReferenceIdeal : Cert.ReferenceIdeal.Facts] [hPre_keeps_ReferenceIdeal : Cert.Pre_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_keeps_Kernel [hKernelIdeal : Cert.KernelIdeal.Facts] [hReferenceIdeal : Cert.ReferenceIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keeps_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_keeps_Kernel : Cert.Pre_keeps_Kernel.Facts) (hPre_swaps_ReferenceIdeal : Cert.Pre_swaps_ReferenceIdeal.Facts) (hPre_keeps_ReferenceIdeal : Cert.Pre_keeps_ReferenceIdeal.Facts),
    quiescent_Kernel (hKernel := hKernel) (hPre_swaps_Kernel := hPre_swaps_Kernel)
    ∧ quiescent_Kernel_pre_keeps_Kernel (hKernel := hKernel) (hPre_keeps_Kernel := hPre_keeps_Kernel)
    ∧ quiescent_KernelIdeal (hKernelIdeal := hKernelIdeal) (hPre_swaps_Kernel := hPre_swaps_Kernel)
    ∧ quiescent_KernelIdeal_pre_keeps_Kernel (hKernelIdeal := hKernelIdeal) (hPre_keeps_Kernel := hPre_keeps_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_keeps_ReferenceIdeal (hReferenceIdeal := hReferenceIdeal) (hPre_keeps_ReferenceIdeal := hPre_keeps_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_keeps_Kernel (hKernelIdeal := hKernelIdeal) (hReferenceIdeal := hReferenceIdeal) (hPre_keeps_Kernel := hPre_keeps_Kernel)
-- ==== Pre_keeps_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_keeps_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swaps_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swaps_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x2048x1024 : Shape := ⟨3, ![1, 2048, 1024]⟩
abbrev S2 : Shape := ⟨1, ![2]⟩
abbrev S12x64x1024 : Shape := ⟨3, ![12, 64, 1024]⟩
abbrev S12 : Shape := ⟨1, ![12]⟩
abbrev S8 : Shape := ⟨1, ![8]⟩
abbrev S1 : Shape := ⟨1, ![1]⟩
abbrev S_ : Shape := ⟨0, ![]⟩
abbrev S1x64x1024 : Shape := ⟨3, ![1, 64, 1024]⟩
abbrev S64x1024 : Shape := ⟨2, ![64, 1024]⟩

abbrev nBuf : Space → Nat
  | .hbm => 3
  | .vmem => 3
  | .smem => 1
  | _ => 0

abbrev bufTy : (tb : Table) → Fin (tcTables nBuf tb) → BufTy
  | .hbm, ⟨0, _⟩ => ⟨S1x2048x1024, .f32⟩
  | .hbm, ⟨1, _⟩ => ⟨S2, .i32⟩
  | .hbm, ⟨2, _⟩ => ⟨S1x2048x1024, .bf16⟩
  | .local _ .vmem, ⟨0, _⟩ => ⟨S1x2048x1024, .bf16⟩
  | .local _ .vmem, ⟨1, _⟩ => ⟨S12x64x1024, .bf16⟩
  | .local _ .vmem, ⟨2, _⟩ => ⟨S12x64x1024, .f32⟩
  | .local _ .smem, ⟨0, _⟩ => ⟨S2, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : Index := Scalar.indexCast v8
  ![v9.toNat]
def k0_dev1 (d0 : Dev nD) (v10 : BitVec 32) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v29 : BitVec 32 := Scalar.muli v2 c4_i32_15
  let v30 : BitVec 32 := Scalar.addi c0_i32_16 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v31 : BitVec 32 := Scalar.muli v5 c2_i32_17
  let v32 : BitVec 32 := Scalar.addi v30 v31
  let c1_i32_18 : BitVec 32 := 1#32
  let v33 : BitVec 32 := Scalar.muli v10 c1_i32_18
  let v34 : BitVec 32 := Scalar.addi v32 v33
  v34.toNat

def k0_dev2 (d0 : Dev nD) (v11 : BitVec 32) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v35 : BitVec 32 := Scalar.muli v2 c4_i32_20
  let v36 : BitVec 32 := Scalar.addi c0_i32_21 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v37 : BitVec 32 := Scalar.muli v5 c2_i32_22
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 1 := Scalar.cmpi .eq v11 v8
  let c0_i32 : BitVec 32 := 0#32
  let c1_i32_3 : BitVec 32 := 1#32
  let v13 : BitVec 32 := Scalar.select v12 c0_i32 c1_i32_3
  let c1_i32_23 : BitVec 32 := 1#32
  let v39 : BitVec 32 := Scalar.muli v13 c1_i32_23
  let v40 : BitVec 32 := Scalar.addi v38 v39
  v40.toNat

def k0_chk2 (d0 : Dev nD) (v11 : BitVec 32) : Prop :=
  ((k0_dev2 d0 v11) < nD)
theorem k0_dev2_lt : ∀ (d0 : Dev nD) (v11 : BitVec 32) (k0_hw2 : k0_chk2 d0 v11), (k0_dev2 d0 v11) < nD := fun d0 v11 k0_hw2 => k0_hw2

def k0_dev3 (d0 : Dev nD) : Nat :=
  let c0_i32_26 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_12 v2
  let c4_i32_25 : BitVec 32 := 4#32
  let v41 : BitVec 32 := Scalar.muli v27 c4_i32_25
  let v42 : BitVec 32 := Scalar.addi c0_i32_26 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v43 : BitVec 32 := Scalar.muli v5 c2_i32_27
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v45 : BitVec 32 := Scalar.muli v8 c1_i32_28
  let v46 : BitVec 32 := Scalar.addi v44 v45
  v46.toNat
def k0_dev4 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v47 : BitVec 32 := Scalar.muli v2 c4_i32_30
  let v48 : BitVec 32 := Scalar.addi c0_i32_31 v47
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_13 v5
  let c2_i32_32 : BitVec 32 := 2#32
  let v49 : BitVec 32 := Scalar.muli v28 c2_i32_32
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v51 : BitVec 32 := Scalar.muli v8 c1_i32_33
  let v52 : BitVec 32 := Scalar.addi v50 v51
  v52.toNat
def k0_off2 (d0 : Dev nD) (c0_i32_37 : BitVec 32) : Fin 3 → Nat :=
  let c0_i32_38 : BitVec 32 := 0#32
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.addi v14 v5
  let c512_i32 : BitVec 32 := 512#32
  let v55 : BitVec 32 := Scalar.muli v15 c512_i32
  let v56 : BitVec 32 := Scalar.addi v55 c0_i32_37
  let c0_i32_43 : BitVec 32 := 0#32
  ![0, v56.toNat, 0]
def k0_off3 (d0 : Dev nD) (c0_i32_90 : BitVec 32) : Fin 3 → Nat :=
  let c0_i32_91 : BitVec 32 := 0#32
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_9 v2
  let v23 : BitVec 32 := Scalar.muli c2_i32_10 v22
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_11 v5
  let v25 : BitVec 32 := Scalar.addi v23 v24
  let c512_i32_89 : BitVec 32 := 512#32
  let v119 : BitVec 32 := Scalar.muli v25 c512_i32_89
  let v120 : BitVec 32 := Scalar.addi v119 c0_i32_90
  let c0_i32_95 : BitVec 32 := 0#32
  ![0, v120.toNat, 0]
def k0_dev5 (d0 : Dev nD) (v10 : BitVec 32) : Nat :=
  let c0_i32_138 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_137 : BitVec 32 := 4#32
  let v167 : BitVec 32 := Scalar.muli v2 c4_i32_137
  let v168 : BitVec 32 := Scalar.addi c0_i32_138 v167
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v169 : BitVec 32 := Scalar.muli v5 c2_i32_139
  let v170 : BitVec 32 := Scalar.addi v168 v169
  let c1_i32_140 : BitVec 32 := 1#32
  let v171 : BitVec 32 := Scalar.muli v10 c1_i32_140
  let v172 : BitVec 32 := Scalar.addi v170 v171
  v172.toNat
def k0_dev6 (d0 : Dev nD) (v10 : BitVec 32) : Nat :=
  let c0_i32_164 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_163 : BitVec 32 := 4#32
  let v197 : BitVec 32 := Scalar.muli v2 c4_i32_163
  let v198 : BitVec 32 := Scalar.addi c0_i32_164 v197
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_165 : BitVec 32 := 2#32
  let v199 : BitVec 32 := Scalar.muli v5 c2_i32_165
  let v200 : BitVec 32 := Scalar.addi v198 v199
  let c1_i32_166 : BitVec 32 := 1#32
  let v201 : BitVec 32 := Scalar.muli v10 c1_i32_166
  let v202 : BitVec 32 := Scalar.addi v200 v201
  v202.toNat
def k0_dev7 (d0 : Dev nD) (v10 : BitVec 32) : Nat :=
  let c0_i32_190 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_189 : BitVec 32 := 4#32
  let v227 : BitVec 32 := Scalar.muli v2 c4_i32_189
  let v228 : BitVec 32 := Scalar.addi c0_i32_190 v227
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_191 : BitVec 32 := 2#32
  let v229 : BitVec 32 := Scalar.muli v5 c2_i32_191
  let v230 : BitVec 32 := Scalar.addi v228 v229
  let c1_i32_192 : BitVec 32 := 1#32
  let v231 : BitVec 32 := Scalar.muli v10 c1_i32_192
  let v232 : BitVec 32 := Scalar.addi v230 v231
  v232.toNat
def k0_dev8 (d0 : Dev nD) (v10 : BitVec 32) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v257 : BitVec 32 := Scalar.muli v2 c4_i32_215
  let v258 : BitVec 32 := Scalar.addi c0_i32_216 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_217 : BitVec 32 := 2#32
  let v259 : BitVec 32 := Scalar.muli v5 c2_i32_217
  let v260 : BitVec 32 := Scalar.addi v258 v259
  let c1_i32_218 : BitVec 32 := 1#32
  let v261 : BitVec 32 := Scalar.muli v10 c1_i32_218
  let v262 : BitVec 32 := Scalar.addi v260 v261
  v262.toNat
def k0_dev9 (d0 : Dev nD) (v10 : BitVec 32) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_241 : BitVec 32 := 4#32
  let v287 : BitVec 32 := Scalar.muli v2 c4_i32_241
  let v288 : BitVec 32 := Scalar.addi c0_i32_242 v287
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v289 : BitVec 32 := Scalar.muli v5 c2_i32_243
  let v290 : BitVec 32 := Scalar.addi v288 v289
  let c1_i32_244 : BitVec 32 := 1#32
  let v291 : BitVec 32 := Scalar.muli v10 c1_i32_244
  let v292 : BitVec 32 := Scalar.addi v290 v291
  v292.toNat
def k0_dev10 (d0 : Dev nD) (v10 : BitVec 32) : Nat :=
  let c0_i32_268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_267 : BitVec 32 := 4#32
  let v317 : BitVec 32 := Scalar.muli v2 c4_i32_267
  let v318 : BitVec 32 := Scalar.addi c0_i32_268 v317
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_269 : BitVec 32 := 2#32
  let v319 : BitVec 32 := Scalar.muli v5 c2_i32_269
  let v320 : BitVec 32 := Scalar.addi v318 v319
  let c1_i32_270 : BitVec 32 := 1#32
  let v321 : BitVec 32 := Scalar.muli v10 c1_i32_270
  let v322 : BitVec 32 := Scalar.addi v320 v321
  v322.toNat
def k0_dev11 (d0 : Dev nD) (v10 : BitVec 32) : Nat :=
  let c0_i32_294 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_293 : BitVec 32 := 4#32
  let v347 : BitVec 32 := Scalar.muli v2 c4_i32_293
  let v348 : BitVec 32 := Scalar.addi c0_i32_294 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_295 : BitVec 32 := 2#32
  let v349 : BitVec 32 := Scalar.muli v5 c2_i32_295
  let v350 : BitVec 32 := Scalar.addi v348 v349
  let c1_i32_296 : BitVec 32 := 1#32
  let v351 : BitVec 32 := Scalar.muli v10 c1_i32_296
  let v352 : BitVec 32 := Scalar.addi v350 v351
  v352.toNat
def k0_dev12 (d0 : Dev nD) (v10 : BitVec 32) : Nat :=
  let c0_i32_320 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_319 : BitVec 32 := 4#32
  let v377 : BitVec 32 := Scalar.muli v2 c4_i32_319
  let v378 : BitVec 32 := Scalar.addi c0_i32_320 v377
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_321 : BitVec 32 := 2#32
  let v379 : BitVec 32 := Scalar.muli v5 c2_i32_321
  let v380 : BitVec 32 := Scalar.addi v378 v379
  let c1_i32_322 : BitVec 32 := 1#32
  let v381 : BitVec 32 := Scalar.muli v10 c1_i32_322
  let v382 : BitVec 32 := Scalar.addi v380 v381
  v382.toNat
def k0_dev13 (d0 : Dev nD) (v10 : BitVec 32) : Nat :=
  let c0_i32_346 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_345 : BitVec 32 := 4#32
  let v407 : BitVec 32 := Scalar.muli v2 c4_i32_345
  let v408 : BitVec 32 := Scalar.addi c0_i32_346 v407
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_347 : BitVec 32 := 2#32
  let v409 : BitVec 32 := Scalar.muli v5 c2_i32_347
  let v410 : BitVec 32 := Scalar.addi v408 v409
  let c1_i32_348 : BitVec 32 := 1#32
  let v411 : BitVec 32 := Scalar.muli v10 c1_i32_348
  let v412 : BitVec 32 := Scalar.addi v410 v411
  v412.toNat
def k0_dev14 (d0 : Dev nD) (v10 : BitVec 32) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_371 : BitVec 32 := 4#32
  let v437 : BitVec 32 := Scalar.muli v2 c4_i32_371
  let v438 : BitVec 32 := Scalar.addi c0_i32_372 v437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_373 : BitVec 32 := 2#32
  let v439 : BitVec 32 := Scalar.muli v5 c2_i32_373
  let v440 : BitVec 32 := Scalar.addi v438 v439
  let c1_i32_374 : BitVec 32 := 1#32
  let v441 : BitVec 32 := Scalar.muli v10 c1_i32_374
  let v442 : BitVec 32 := Scalar.addi v440 v441
  v442.toNat
def k0_dev15 (d0 : Dev nD) (v10 : BitVec 32) : Nat :=
  let c0_i32_398 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_397 : BitVec 32 := 4#32
  let v467 : BitVec 32 := Scalar.muli v2 c4_i32_397
  let v468 : BitVec 32 := Scalar.addi c0_i32_398 v467
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_399 : BitVec 32 := 2#32
  let v469 : BitVec 32 := Scalar.muli v5 c2_i32_399
  let v470 : BitVec 32 := Scalar.addi v468 v469
  let c1_i32_400 : BitVec 32 := 1#32
  let v471 : BitVec 32 := Scalar.muli v10 c1_i32_400
  let v472 : BitVec 32 := Scalar.addi v470 v471
  v472.toNat
def k0_dev16 (d0 : Dev nD) (v10 : BitVec 32) : Nat :=
  let c0_i32_424 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_423 : BitVec 32 := 4#32
  let v497 : BitVec 32 := Scalar.muli v2 c4_i32_423
  let v498 : BitVec 32 := Scalar.addi c0_i32_424 v497
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_425 : BitVec 32 := 2#32
  let v499 : BitVec 32 := Scalar.muli v5 c2_i32_425
  let v500 : BitVec 32 := Scalar.addi v498 v499
  let c1_i32_426 : BitVec 32 := 1#32
  let v501 : BitVec 32 := Scalar.muli v10 c1_i32_426
  let v502 : BitVec 32 := Scalar.addi v500 v501
  v502.toNat

def k0_chk1 (d0 : Dev nD) (v10 : BitVec 32) : Prop :=
  ((k0_dev1 d0 v10) < nD) ∧
  ((k0_dev5 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD) ∧
  ((k0_dev11 d0 v10) < nD) ∧
  ((k0_dev12 d0 v10) < nD) ∧
  ((k0_dev13 d0 v10) < nD) ∧
  ((k0_dev14 d0 v10) < nD) ∧
  ((k0_dev15 d0 v10) < nD) ∧
  ((k0_dev16 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev5_lt : ∀ (d0 : Dev nD) (v10 : BitVec 32) (k0_hw1 : k0_chk1 d0 v10), (k0_dev5 d0 v10) < nD := fun d0 v10 k0_hw1 => k0_hw1.2.1
theorem k0_dev6_lt : ∀ (d0 : Dev nD) (v10 : BitVec 32) (k0_hw1 : k0_chk1 d0 v10), (k0_dev6 d0 v10) < nD := fun d0 v10 k0_hw1 => k0_hw1.2.2.1
theorem k0_dev7_lt : ∀ (d0 : Dev nD) (v10 : BitVec 32) (k0_hw1 : k0_chk1 d0 v10), (k0_dev7 d0 v10) < nD := fun d0 v10 k0_hw1 => k0_hw1.2.2.2.1
theorem k0_dev8_lt : ∀ (d0 : Dev nD) (v10 : BitVec 32) (k0_hw1 : k0_chk1 d0 v10), (k0_dev8 d0 v10) < nD := fun d0 v10 k0_hw1 => k0_hw1.2.2.2.2.1
theorem k0_dev9_lt : ∀ (d0 : Dev nD) (v10 : BitVec 32) (k0_hw1 : k0_chk1 d0 v10), (k0_dev9 d0 v10) < nD := fun d0 v10 k0_hw1 => k0_hw1.2.2.2.2.2.1
theorem k0_dev10_lt : ∀ (d0 : Dev nD) (v10 : BitVec 32) (k0_hw1 : k0_chk1 d0 v10), (k0_dev10 d0 v10) < nD := fun d0 v10 k0_hw1 => k0_hw1.2.2.2.2.2.2.1
theorem k0_dev11_lt : ∀ (d0 : Dev nD) (v10 : BitVec 32) (k0_hw1 : k0_chk1 d0 v10), (k0_dev11 d0 v10) < nD := fun d0 v10 k0_hw1 => k0_hw1.2.2.2.2.2.2.2.1
theorem k0_dev12_lt : ∀ (d0 : Dev nD) (v10 : BitVec 32) (k0_hw1 : k0_chk1 d0 v10), (k0_dev12 d0 v10) < nD := fun d0 v10 k0_hw1 => k0_hw1.2.2.2.2.2.2.2.2.1
theorem k0_dev13_lt : ∀ (d0 : Dev nD) (v10 : BitVec 32) (k0_hw1 : k0_chk1 d0 v10), (k0_dev13 d0 v10) < nD := fun d0 v10 k0_hw1 => k0_hw1.2.2.2.2.2.2.2.2.2.1
theorem k0_dev14_lt : ∀ (d0 : Dev nD) (v10 : BitVec 32) (k0_hw1 : k0_chk1 d0 v10), (k0_dev14 d0 v10) < nD := fun d0 v10 k0_hw1 => k0_hw1.2.2.2.2.2.2.2.2.2.2.1
theorem k0_dev15_lt : ∀ (d0 : Dev nD) (v10 : BitVec 32) (k0_hw1 : k0_chk1 d0 v10), (k0_dev15 d0 v10) < nD := fun d0 v10 k0_hw1 => k0_hw1.2.2.2.2.2.2.2.2.2.2.2.1
theorem k0_dev16_lt : ∀ (d0 : Dev nD) (v10 : BitVec 32) (k0_hw1 : k0_chk1 d0 v10), (k0_dev16 d0 v10) < nD := fun d0 v10 k0_hw1 => k0_hw1.2.2.2.2.2.2.2.2.2.2.2.2

def k0_dev17 (d0 : Dev nD) : Nat :=
  let c0_i32_452 : BitVec 32 := 0#32
  let c1_i32_35 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_35 v2
  let c4_i32_451 : BitVec 32 := 4#32
  let v529 : BitVec 32 := Scalar.muli v53 c4_i32_451
  let v530 : BitVec 32 := Scalar.addi c0_i32_452 v529
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_453 : BitVec 32 := 2#32
  let v531 : BitVec 32 := Scalar.muli v5 c2_i32_453
  let v532 : BitVec 32 := Scalar.addi v530 v531
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_454 : BitVec 32 := 1#32
  let v533 : BitVec 32 := Scalar.muli v8 c1_i32_454
  let v534 : BitVec 32 := Scalar.addi v532 v533
  v534.toNat
def k0_dev18 (d0 : Dev nD) : Nat :=
  let c0_i32_466 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_465 : BitVec 32 := 4#32
  let v547 : BitVec 32 := Scalar.muli v2 c4_i32_465
  let v548 : BitVec 32 := Scalar.addi c0_i32_466 v547
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_36 v5
  let c2_i32_467 : BitVec 32 := 2#32
  let v549 : BitVec 32 := Scalar.muli v54 c2_i32_467
  let v550 : BitVec 32 := Scalar.addi v548 v549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_468 : BitVec 32 := 1#32
  let v551 : BitVec 32 := Scalar.muli v8 c1_i32_468
  let v552 : BitVec 32 := Scalar.addi v550 v551
  v552.toNat
def k0_dev19 (d0 : Dev nD) : Nat :=
  let c0_i32_493 : BitVec 32 := 0#32
  let c1_i32_35 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_35 v2
  let c4_i32_492 : BitVec 32 := 4#32
  let v579 : BitVec 32 := Scalar.muli v53 c4_i32_492
  let v580 : BitVec 32 := Scalar.addi c0_i32_493 v579
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_494 : BitVec 32 := 2#32
  let v581 : BitVec 32 := Scalar.muli v5 c2_i32_494
  let v582 : BitVec 32 := Scalar.addi v580 v581
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_495 : BitVec 32 := 1#32
  let v583 : BitVec 32 := Scalar.muli v8 c1_i32_495
  let v584 : BitVec 32 := Scalar.addi v582 v583
  v584.toNat
def k0_dev20 (d0 : Dev nD) : Nat :=
  let c0_i32_507 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_506 : BitVec 32 := 4#32
  let v597 : BitVec 32 := Scalar.muli v2 c4_i32_506
  let v598 : BitVec 32 := Scalar.addi c0_i32_507 v597
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_36 v5
  let c2_i32_508 : BitVec 32 := 2#32
  let v599 : BitVec 32 := Scalar.muli v54 c2_i32_508
  let v600 : BitVec 32 := Scalar.addi v598 v599
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_509 : BitVec 32 := 1#32
  let v601 : BitVec 32 := Scalar.muli v8 c1_i32_509
  let v602 : BitVec 32 := Scalar.addi v600 v601
  v602.toNat
def k0_dev21 (d0 : Dev nD) : Nat :=
  let c0_i32_534 : BitVec 32 := 0#32
  let c1_i32_35 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_35 v2
  let c4_i32_533 : BitVec 32 := 4#32
  let v629 : BitVec 32 := Scalar.muli v53 c4_i32_533
  let v630 : BitVec 32 := Scalar.addi c0_i32_534 v629
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_535 : BitVec 32 := 2#32
  let v631 : BitVec 32 := Scalar.muli v5 c2_i32_535
  let v632 : BitVec 32 := Scalar.addi v630 v631
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_536 : BitVec 32 := 1#32
  let v633 : BitVec 32 := Scalar.muli v8 c1_i32_536
  let v634 : BitVec 32 := Scalar.addi v632 v633
  v634.toNat
def k0_dev22 (d0 : Dev nD) : Nat :=
  let c0_i32_548 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_547 : BitVec 32 := 4#32
  let v647 : BitVec 32 := Scalar.muli v2 c4_i32_547
  let v648 : BitVec 32 := Scalar.addi c0_i32_548 v647
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_36 v5
  let c2_i32_549 : BitVec 32 := 2#32
  let v649 : BitVec 32 := Scalar.muli v54 c2_i32_549
  let v650 : BitVec 32 := Scalar.addi v648 v649
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_550 : BitVec 32 := 1#32
  let v651 : BitVec 32 := Scalar.muli v8 c1_i32_550
  let v652 : BitVec 32 := Scalar.addi v650 v651
  v652.toNat
def k0_dev23 (d0 : Dev nD) : Nat :=
  let c0_i32_575 : BitVec 32 := 0#32
  let c1_i32_35 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_35 v2
  let c4_i32_574 : BitVec 32 := 4#32
  let v679 : BitVec 32 := Scalar.muli v53 c4_i32_574
  let v680 : BitVec 32 := Scalar.addi c0_i32_575 v679
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_576 : BitVec 32 := 2#32
  let v681 : BitVec 32 := Scalar.muli v5 c2_i32_576
  let v682 : BitVec 32 := Scalar.addi v680 v681
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_577 : BitVec 32 := 1#32
  let v683 : BitVec 32 := Scalar.muli v8 c1_i32_577
  let v684 : BitVec 32 := Scalar.addi v682 v683
  v684.toNat
def k0_dev24 (d0 : Dev nD) : Nat :=
  let c0_i32_589 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_588 : BitVec 32 := 4#32
  let v697 : BitVec 32 := Scalar.muli v2 c4_i32_588
  let v698 : BitVec 32 := Scalar.addi c0_i32_589 v697
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_36 v5
  let c2_i32_590 : BitVec 32 := 2#32
  let v699 : BitVec 32 := Scalar.muli v54 c2_i32_590
  let v700 : BitVec 32 := Scalar.addi v698 v699
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_591 : BitVec 32 := 1#32
  let v701 : BitVec 32 := Scalar.muli v8 c1_i32_591
  let v702 : BitVec 32 := Scalar.addi v700 v701
  v702.toNat
def k0_dev25 (d0 : Dev nD) : Nat :=
  let c0_i32_616 : BitVec 32 := 0#32
  let c1_i32_35 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_35 v2
  let c4_i32_615 : BitVec 32 := 4#32
  let v729 : BitVec 32 := Scalar.muli v53 c4_i32_615
  let v730 : BitVec 32 := Scalar.addi c0_i32_616 v729
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_617 : BitVec 32 := 2#32
  let v731 : BitVec 32 := Scalar.muli v5 c2_i32_617
  let v732 : BitVec 32 := Scalar.addi v730 v731
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_618 : BitVec 32 := 1#32
  let v733 : BitVec 32 := Scalar.muli v8 c1_i32_618
  let v734 : BitVec 32 := Scalar.addi v732 v733
  v734.toNat
def k0_dev26 (d0 : Dev nD) : Nat :=
  let c0_i32_630 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_629 : BitVec 32 := 4#32
  let v747 : BitVec 32 := Scalar.muli v2 c4_i32_629
  let v748 : BitVec 32 := Scalar.addi c0_i32_630 v747
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_36 v5
  let c2_i32_631 : BitVec 32 := 2#32
  let v749 : BitVec 32 := Scalar.muli v54 c2_i32_631
  let v750 : BitVec 32 := Scalar.addi v748 v749
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_632 : BitVec 32 := 1#32
  let v751 : BitVec 32 := Scalar.muli v8 c1_i32_632
  let v752 : BitVec 32 := Scalar.addi v750 v751
  v752.toNat
def k0_dev27 (d0 : Dev nD) : Nat :=
  let c0_i32_657 : BitVec 32 := 0#32
  let c1_i32_35 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_35 v2
  let c4_i32_656 : BitVec 32 := 4#32
  let v779 : BitVec 32 := Scalar.muli v53 c4_i32_656
  let v780 : BitVec 32 := Scalar.addi c0_i32_657 v779
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_658 : BitVec 32 := 2#32
  let v781 : BitVec 32 := Scalar.muli v5 c2_i32_658
  let v782 : BitVec 32 := Scalar.addi v780 v781
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_659 : BitVec 32 := 1#32
  let v783 : BitVec 32 := Scalar.muli v8 c1_i32_659
  let v784 : BitVec 32 := Scalar.addi v782 v783
  v784.toNat
def k0_dev28 (d0 : Dev nD) : Nat :=
  let c0_i32_671 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_670 : BitVec 32 := 4#32
  let v797 : BitVec 32 := Scalar.muli v2 c4_i32_670
  let v798 : BitVec 32 := Scalar.addi c0_i32_671 v797
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_36 v5
  let c2_i32_672 : BitVec 32 := 2#32
  let v799 : BitVec 32 := Scalar.muli v54 c2_i32_672
  let v800 : BitVec 32 := Scalar.addi v798 v799
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_673 : BitVec 32 := 1#32
  let v801 : BitVec 32 := Scalar.muli v8 c1_i32_673
  let v802 : BitVec 32 := Scalar.addi v800 v801
  v802.toNat
def k0_dev29 (d0 : Dev nD) : Nat :=
  let c0_i32_698 : BitVec 32 := 0#32
  let c1_i32_35 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_35 v2
  let c4_i32_697 : BitVec 32 := 4#32
  let v829 : BitVec 32 := Scalar.muli v53 c4_i32_697
  let v830 : BitVec 32 := Scalar.addi c0_i32_698 v829
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_699 : BitVec 32 := 2#32
  let v831 : BitVec 32 := Scalar.muli v5 c2_i32_699
  let v832 : BitVec 32 := Scalar.addi v830 v831
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_700 : BitVec 32 := 1#32
  let v833 : BitVec 32 := Scalar.muli v8 c1_i32_700
  let v834 : BitVec 32 := Scalar.addi v832 v833
  v834.toNat
def k0_dev30 (d0 : Dev nD) : Nat :=
  let c0_i32_712 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_711 : BitVec 32 := 4#32
  let v847 : BitVec 32 := Scalar.muli v2 c4_i32_711
  let v848 : BitVec 32 := Scalar.addi c0_i32_712 v847
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_36 v5
  let c2_i32_713 : BitVec 32 := 2#32
  let v849 : BitVec 32 := Scalar.muli v54 c2_i32_713
  let v850 : BitVec 32 := Scalar.addi v848 v849
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_714 : BitVec 32 := 1#32
  let v851 : BitVec 32 := Scalar.muli v8 c1_i32_714
  let v852 : BitVec 32 := Scalar.addi v850 v851
  v852.toNat
def k0_dev31 (d0 : Dev nD) : Nat :=
  let c0_i32_739 : BitVec 32 := 0#32
  let c1_i32_35 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_35 v2
  let c4_i32_738 : BitVec 32 := 4#32
  let v879 : BitVec 32 := Scalar.muli v53 c4_i32_738
  let v880 : BitVec 32 := Scalar.addi c0_i32_739 v879
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_740 : BitVec 32 := 2#32
  let v881 : BitVec 32 := Scalar.muli v5 c2_i32_740
  let v882 : BitVec 32 := Scalar.addi v880 v881
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_741 : BitVec 32 := 1#32
  let v883 : BitVec 32 := Scalar.muli v8 c1_i32_741
  let v884 : BitVec 32 := Scalar.addi v882 v883
  v884.toNat
def k0_dev32 (d0 : Dev nD) : Nat :=
  let c0_i32_753 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_752 : BitVec 32 := 4#32
  let v897 : BitVec 32 := Scalar.muli v2 c4_i32_752
  let v898 : BitVec 32 := Scalar.addi c0_i32_753 v897
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_36 v5
  let c2_i32_754 : BitVec 32 := 2#32
  let v899 : BitVec 32 := Scalar.muli v54 c2_i32_754
  let v900 : BitVec 32 := Scalar.addi v898 v899
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_755 : BitVec 32 := 1#32
  let v901 : BitVec 32 := Scalar.muli v8 c1_i32_755
  let v902 : BitVec 32 := Scalar.addi v900 v901
  v902.toNat
def k0_off4 (d0 : Dev nD) (c0_i32_759 : BitVec 32) : Fin 3 → Nat :=
  let c0_i32_761 : BitVec 32 := 0#32
  let c2_i32_6 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_5 v2
  let v17 : BitVec 32 := Scalar.muli c2_i32_6 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.addi v17 v5
  let c512_i32_758 : BitVec 32 := 512#32
  let v911 : BitVec 32 := Scalar.muli v18 c512_i32_758
  let v912 : BitVec 32 := Scalar.addi v911 c0_i32_759
  let c0_i32_768 : BitVec 32 := 0#32
  ![0, v912.toNat, 0]
def k0_off5 (d0 : Dev nD) (c0_i32_772 : BitVec 32) : Fin 3 → Nat :=
  let c0_i32_774 : BitVec 32 := 0#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_8 v5
  let v21 : BitVec 32 := Scalar.addi v19 v20
  let c512_i32_771 : BitVec 32 := 512#32
  let v925 : BitVec 32 := Scalar.muli v21 c512_i32_771
  let v926 : BitVec 32 := Scalar.addi v925 c0_i32_772
  let c0_i32_781 : BitVec 32 := 0#32
  ![0, v926.toNat, 0]
def k0_dev33 (d0 : Dev nD) : Nat :=
  let c0_i32_897 : BitVec 32 := 0#32
  let c1_i32_35 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_35 v2
  let c4_i32_896 : BitVec 32 := 4#32
  let v1055 : BitVec 32 := Scalar.muli v53 c4_i32_896
  let v1056 : BitVec 32 := Scalar.addi c0_i32_897 v1055
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_898 : BitVec 32 := 2#32
  let v1057 : BitVec 32 := Scalar.muli v5 c2_i32_898
  let v1058 : BitVec 32 := Scalar.addi v1056 v1057
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_899 : BitVec 32 := 1#32
  let v1059 : BitVec 32 := Scalar.muli v8 c1_i32_899
  let v1060 : BitVec 32 := Scalar.addi v1058 v1059
  v1060.toNat
def k0_dev34 (d0 : Dev nD) : Nat :=
  let c0_i32_937 : BitVec 32 := 0#32
  let c1_i32_35 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_35 v2
  let c4_i32_936 : BitVec 32 := 4#32
  let v1101 : BitVec 32 := Scalar.muli v53 c4_i32_936
  let v1102 : BitVec 32 := Scalar.addi c0_i32_937 v1101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_938 : BitVec 32 := 2#32
  let v1103 : BitVec 32 := Scalar.muli v5 c2_i32_938
  let v1104 : BitVec 32 := Scalar.addi v1102 v1103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_939 : BitVec 32 := 1#32
  let v1105 : BitVec 32 := Scalar.muli v8 c1_i32_939
  let v1106 : BitVec 32 := Scalar.addi v1104 v1105
  v1106.toNat
def k0_dev35 (d0 : Dev nD) : Nat :=
  let c0_i32_964 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_963 : BitVec 32 := 4#32
  let v1133 : BitVec 32 := Scalar.muli v2 c4_i32_963
  let v1134 : BitVec 32 := Scalar.addi c0_i32_964 v1133
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_36 v5
  let c2_i32_965 : BitVec 32 := 2#32
  let v1135 : BitVec 32 := Scalar.muli v54 c2_i32_965
  let v1136 : BitVec 32 := Scalar.addi v1134 v1135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_966 : BitVec 32 := 1#32
  let v1137 : BitVec 32 := Scalar.muli v8 c1_i32_966
  let v1138 : BitVec 32 := Scalar.addi v1136 v1137
  v1138.toNat
def k0_dev36 (d0 : Dev nD) : Nat :=
  let c0_i32_1004 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1003 : BitVec 32 := 4#32
  let v1179 : BitVec 32 := Scalar.muli v2 c4_i32_1003
  let v1180 : BitVec 32 := Scalar.addi c0_i32_1004 v1179
  let c1_i32_36 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_36 v5
  let c2_i32_1005 : BitVec 32 := 2#32
  let v1181 : BitVec 32 := Scalar.muli v54 c2_i32_1005
  let v1182 : BitVec 32 := Scalar.addi v1180 v1181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1006 : BitVec 32 := 1#32
  let v1183 : BitVec 32 := Scalar.muli v8 c1_i32_1006
  let v1184 : BitVec 32 := Scalar.addi v1182 v1183
  v1184.toNat
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S2 : Shape := ⟨1, ![2]⟩
abbrev S_ : Shape := ⟨0, ![]⟩
abbrev S2x1 : Shape := ⟨2, ![2, 1]⟩

abbrev nBuf : Space → Nat
  | .hbm => 15
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x2048x1024, .f32⟩
  | .hbm, ⟨14, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Steps.lean ====
module

public import proofs.«01_k».proof.Proof.Gen.KernelIdeal
public import proofs.«01_k».proof.Proof.Gen.KernelIdeal.Skeleton
public import proofs.«01_k».proof.Proof.Gen.KernelIdeal.Points

/-!
# The kernel's body as a list of small steps

One device sends 32 blocks of 64 rows to its neighbours and receives 32 such blocks. The transfers
are named by one type `Tr`; the body after its first barrier is then a list of steps over `Tr`.
-/

@[expose] public section

noncomputable section

open Idealize.ShloMosaic Idealize.SL.Sem
open Cert.KernelIdeal Cert.KernelIdeal.Gen

namespace Cert.Exchange

variable {F : FTy → Type} [FloatOps F]

/-- The remote transfers one device starts (and, as the exchange is symmetric, receives):
`z k` goes to the device that needs our block of `x`; `xf p` and `yf p` pass the `p`-th piece
received from there on along the x and the y axis; `xr j` and `yr j` pass on a second time what came
along y and along x. -/
inductive Tr where
  | z (k : Fin 12)
  | xf (p : Fin 8)
  | yf (p : Fin 8)
  | xr (j : Fin 2)
  | yr (j : Fin 2)
  deriving DecidableEq

/-- A transfer is a member of one of the five families. -/
def Tr.equiv : (Fin 12 ⊕ Fin 8 ⊕ Fin 8 ⊕ Fin 2 ⊕ Fin 2) ≃ Tr where
  toFun
    | .inl k => .z k
    | .inr (.inl p) => .xf p
    | .inr (.inr (.inl p)) => .yf p
    | .inr (.inr (.inr (.inl j))) => .xr j
    | .inr (.inr (.inr (.inr j))) => .yr j
  invFun
    | .z k => .inl k
    | .xf p => .inr (.inl p)
    | .yf p => .inr (.inr (.inl p))
    | .xr j => .inr (.inr (.inr (.inl j)))
    | .yr j => .inr (.inr (.inr (.inr j)))
  left_inv := by rintro (_ | _ | _ | _ | _) <;> rfl
  right_inv := by rintro (_ | _ | _ | _ | _) <;> rfl

instance : Fintype Tr := Fintype.ofEquiv _ Tr.equiv

/-- The steps of the body after the barrier. -/
inductive Step where
  | ld (k : Fin 12)
  | cast (k : Fin 12)
  | send (t : Tr)
  | recv (t : Tr)
  | done (t : Tr)

/-- The program of one effect of the kernel, returning nothing. -/
abbrev PP (F : FTy → Type) [FloatOps F] := Prog (TpuEff nD τ sig (Elt F) Λ₀ .tc) PUnit

/-! ## Buffers, slices and semaphores -/

/-- Our block of `x`. -/
abbrev xM : Memref sig .tc .hbm S1x2048x1024 .f32 := Memref.whole main_arg0
/-- The permutation, staged in scalar memory. -/
abbrev pM : Memref sig .tc .smem S2 .i32 := Memref.whole cc0_stg0_0
/-- The output's staging buffer, where the peers write. -/
abbrev oM : Memref sig .tc .vmem S1x2048x1024 .bf16 := Memref.whole cc0_stg1_0
/-- The rounded pieces to be sent along z. -/
abbrev zM : Memref sig .tc .vmem S12x64x1024 .bf16 := Memref.whole cc0_scratch0
/-- The pieces of `x` before rounding. -/
abbrev stM : Memref sig .tc .vmem S12x64x1024 .f32 := Memref.whole cc0_scratch1

/-- Slab `k` of a buffer of twelve slabs lies inside it. -/
theorem slab_inb (k : Fin 12) : ∀ a, (![k.val, 0, 0] : Fin 3 → ℕ) a + S1x64x1024.size a ≤ S12x64x1024.size a := by
  revert k; decide

/-- Slab `k` as a rectangle. -/
abbrev slabR (k : Fin 12) : Rect S12x64x1024 :=
  Rect.unit (s := S12x64x1024) ![k.val, 0, 0] S1x64x1024.size (slab_inb k)

/-- A slab of 16-bit elements is made of whole words. -/
theorem slab_words (k : Fin 12) : (slabR k).WholeWords (EltTy.packing .bf16) := by
  revert k; decide +kernel

/-- A slab of 16-bit elements is made of whole packed rows. -/
theorem slab_packed (k : Fin 12) : (slabR k).PackedRows (EltTy.packing .bf16) := by
  revert k; decide +kernel

/-- Where the `k`-th piece of the z transfers starts (the same rows at sender and receiver). -/
def zoff (c : Dev nD) (k : Fin 12) : Fin 3 → ℕ :=
  if k.val < 8 then k0_off2 c (BitVec.ofNat 32 (64 * k.val))
  else k0_off3 c (BitVec.ofNat 32 (64 * (k.val - 8)))

theorem zoff_inb (c : Dev nD) (k : Fin 12) : ∀ a, zoff c k a + S1x64x1024.size a ≤ S1x2048x1024.size a := by
  unfold zoff
  split_ifs with h
  · exact k0_off2_inb c ⟨k.val, h⟩
  · exact k0_off3_inb c ⟨k.val - 8, by omega⟩

/-- A block of 64 rows starting at `off`, as a rectangle. -/
abbrev pieceR (off : Fin 3 → ℕ) (h : ∀ a, off a + S1x64x1024.size a ≤ S1x2048x1024.size a) : Rect S1x2048x1024 :=
  Rect.unit (s := S1x2048x1024) off S1x64x1024.size h

theorem zoff_words (c : Dev nD) (k : Fin 12) :
    (pieceR (zoff c k) (zoff_inb c k)).WholeWords (EltTy.packing .bf16) := by
  by_cases h : k.val < 8
  · have e : zoff c k = k0_off2 c (BitVec.ofNat 32 (64 * k.val)) := if_pos h
    have := k0_off2_wordsbf16 c ⟨k.val, h⟩
    simpa only [e] using this
  · have e : zoff c k = k0_off3 c (BitVec.ofNat 32 (64 * (k.val - 8))) := if_neg h
    have := k0_off3_wordsbf16 c ⟨k.val - 8, by omega⟩
    simpa only [e] using this

/-- A piece of our block of `x`. -/
abbrev xPiece (c : Dev nD) (k : Fin 12) : Memref sig .tc .hbm S64x1024 .f32 :=
  (xM.slice (pieceR (zoff c k) (zoff_inb c k)) (fun _ => rfl)).squeeze S64x1024 squeezes_S1x64x1024_S64x1024

/-- A piece of the output. -/
abbrev oPiece (off : Fin 3 → ℕ) (h : ∀ a, off a + S1x64x1024.size a ≤ S1x2048x1024.size a) :
    Memref sig .tc .vmem S64x1024 .bf16 :=
  (oM.slice (pieceR off h) (fun _ => rfl)).squeeze S64x1024 squeezes_S1x64x1024_S64x1024

/-- Slab `k` of the rounded pieces. -/
abbrev zSlab (k : Fin 12) : Memref sig .tc .vmem S64x1024 .bf16 :=
  (zM.slice (slabR k) (fun _ => rfl)).squeeze S64x1024 squeezes_S1x64x1024_S64x1024

/-- Slab `k` of the loaded pieces. -/
abbrev stSlab (k : Fin 12) : Memref sig .tc .vmem S64x1024 .f32 :=
  (stM.slice (slabR k) (fun _ => rfl)).squeeze S64x1024 squeezes_S1x64x1024_S64x1024

/-- One semaphore of an array of twelve. -/
abbrev at12 (a : DmaSems sig S12) (k : Fin 12) : DmaSem sig :=
  ((a.slice (Rect.unit (s := S12) ![k.val] S1.size (by revert k; decide))).squeeze S_ squeezes_S1_S_).sem
/-- One semaphore of an array of eight. -/
abbrev at8 (a : DmaSems sig S8) (p : Fin 8) : DmaSem sig :=
  ((a.slice (Rect.unit (s := S8) ![p.val] S1.size (by revert p; decide))).squeeze S_ squeezes_S1_S_).sem
/-- One semaphore of an array of two. -/
abbrev at2 (a : DmaSems sig S2) (j : Fin 2) : DmaSem sig :=
  ((a.slice (Rect.unit (s := S2) ![j.val] S1.size (by revert j; decide))).squeeze S_ squeezes_S1_S_).sem

/-- The semaphore of the local load `k`. -/
def ldS (k : Fin 12) : DmaSem sig := at12 cc0_scratch2 k
/-- The sender's semaphore of a transfer. -/
def sndS : Tr → DmaSem sig
  | .z k => at12 cc0_scratch3 k
  | .xf p => at8 cc0_scratch5 p
  | .yf p => at8 cc0_scratch7 p
  | .xr j => at2 cc0_scratch9 j
  | .yr j => at2 cc0_scratch11 j
/-- The receiver's semaphore of a transfer. -/
def rcvS : Tr → DmaSem sig
  | .z k => at12 cc0_scratch4 k
  | .xf p => at8 cc0_scratch6 p
  | .yf p => at8 cc0_scratch8 p
  | .xr j => at2 cc0_scratch10 j
  | .yr j => at2 cc0_scratch12 j

/-- Where the rows of a transfer start, at its sender. -/
def sOff (c : Dev nD) : Tr → Fin 3 → ℕ
  | .z k => zoff c k
  | .xf p => k0_off2 c (BitVec.ofNat 32 (64 * p.val))
  | .yf p => k0_off2 c (BitVec.ofNat 32 (64 * p.val))
  | .xr j => k0_off5 c (BitVec.ofNat 32 (64 * (⟨j.val + 4, by omega⟩ : Fin 8).val))
  | .yr j => k0_off4 c (BitVec.ofNat 32 (64 * (⟨j.val + 6, by omega⟩ : Fin 8).val))

theorem sOff_inb (c : Dev nD) (t : Tr) : ∀ a, sOff c t a + S1x64x1024.size a ≤ S1x2048x1024.size a := by
  cases t with
  | z k => exact zoff_inb c k
  | xf p => exact k0_off2_inb c p
  | yf p => exact k0_off2_inb c p
  | xr j => exact k0_off5_inb c ⟨j.val + 4, by omega⟩
  | yr j => exact k0_off4_inb c ⟨j.val + 6, by omega⟩

theorem sOff_words (c : Dev nD) (t : Tr) :
    (pieceR (sOff c t) (sOff_inb c t)).WholeWords (EltTy.packing .bf16) := by
  cases t with
  | z k => exact zoff_words c k
  | xf p => exact k0_off2_wordsbf16 c p
  | yf p => exact k0_off2_wordsbf16 c p
  | xr j => exact k0_off5_wordsbf16 c ⟨j.val + 4, by omega⟩
  | yr j => exact k0_off4_wordsbf16 c ⟨j.val + 6, by omega⟩

/-- Where the rows of a transfer land, at its receiver. -/
def rOff (c : Dev nD) : Tr → Fin 3 → ℕ
  | .z k => zoff c k
  | .xf p => k0_off4 c (BitVec.ofNat 32 (64 * p.val))
  | .yf p => k0_off5 c (BitVec.ofNat 32 (64 * p.val))
  | .xr j => k0_off3 c (BitVec.ofNat 32 (64 * (⟨j.val + 4, by omega⟩ : Fin 8).val))
  | .yr j => k0_off3 c (BitVec.ofNat 32 (64 * (⟨j.val + 6, by omega⟩ : Fin 8).val))

theorem rOff_inb (c : Dev nD) (t : Tr) : ∀ a, rOff c t a + S1x64x1024.size a ≤ S1x2048x1024.size a := by
  cases t with
  | z k => exact zoff_inb c k
  | xf p => exact k0_off4_inb c p
  | yf p => exact k0_off5_inb c p
  | xr j => exact k0_off3_inb c ⟨j.val + 4, by omega⟩
  | yr j => exact k0_off3_inb c ⟨j.val + 6, by omega⟩

theorem rOff_words (c : Dev nD) (t : Tr) :
    (pieceR (rOff c t) (rOff_inb c t)).WholeWords (EltTy.packing .bf16) := by
  cases t with
  | z k => exact zoff_words c k
  | xf p => exact k0_off4_wordsbf16 c p
  | yf p => exact k0_off5_wordsbf16 c p
  | xr j => exact k0_off3_wordsbf16 c ⟨j.val + 4, by omega⟩
  | yr j => exact k0_off3_wordsbf16 c ⟨j.val + 6, by omega⟩

/-- What a transfer reads at its sender. -/
def srcM (c : Dev nD) : Tr → Memref sig .tc .vmem S64x1024 .bf16
  | .z k => zSlab k
  | .xf p => oPiece (sOff c (.xf p)) (sOff_inb c (.xf p))
  | .yf p => oPiece (sOff c (.yf p)) (sOff_inb c (.yf p))
  | .xr j => oPiece (sOff c (.xr j)) (sOff_inb c (.xr j))
  | .yr j => oPiece (sOff c (.yr j)) (sOff_inb c (.yr j))

/-- What a transfer writes at its receiver, as the sender names it. -/
abbrev dstM (c : Dev nD) (t : Tr) : Memref sig .tc .vmem S64x1024 .bf16 := oPiece (sOff c t) (sOff_inb c t)

/-- What a transfer writes at its receiver, as the receiver names it. -/
abbrev recM (c : Dev nD) (t : Tr) : Memref sig .tc .vmem S64x1024 .bf16 := oPiece (rOff c t) (rOff_inb c t)

/-- The slab a receiver's wait names as its source. -/
def waitSlab : Tr → Fin 12
  | .z k => k
  | _ => 0

theorem zSlab_words (k : Fin 12) : (zSlab k).view.WordExact :=
  ((Memref.isWhole_whole (κ := .tc) cc0_scratch0).wordExact_slice rfl _ (slab_words k)).reshape _ _

theorem oPiece_words (off : Fin 3 → ℕ) (h : ∀ a, off a + S1x64x1024.size a ≤ S1x2048x1024.size a)
    (hw : (pieceR off h).WholeWords (EltTy.packing .bf16)) : (oPiece off h).view.WordExact :=
  ((Memref.isWhole_whole (κ := .tc) cc0_stg1_0).wordExact_slice rfl _ hw).reshape _ _

theorem srcM_words (c : Dev nD) (t : Tr) : (srcM c t).view.WordExact := by
  cases t with
  | z k => exact zSlab_words k
  | xf p => exact oPiece_words _ _ (sOff_words c (.xf p))
  | yf p => exact oPiece_words _ _ (sOff_words c (.yf p))
  | xr j => exact oPiece_words _ _ (sOff_words c (.xr j))
  | yr j => exact oPiece_words _ _ (sOff_words c (.yr j))

/-! ## The steps' programs -/

/-- The device a z transfer is sent to, from the word `v` of the permutation. -/
abbrev zDev (c : Dev nD) (v : BitVec 32) (h : k0_chk1 c v) : Dev nD := ⟨k0_dev5 c v, k0_dev5_lt c v h⟩
/-- Our neighbour along x. -/
abbrev xDev (c : Dev nD) : Dev nD := ⟨k0_dev3 c, k0_dev3_lt c⟩
/-- Our neighbour along y. -/
abbrev yDev (c : Dev nD) : Dev nD := ⟨k0_dev4 c, k0_dev4_lt c⟩

/-- The receiver of a transfer, as the body computes it. -/
def tgt (c : Dev nD) (v : BitVec 32) (h : k0_chk1 c v) : Tr → Dev nD
  | .z _ => zDev c v h
  | .xf _ => xDev c
  | .yf _ => yDev c
  | .xr _ => xDev c
  | .yr _ => yDev c

/-- Start loading piece `k` of `x`. -/
def ldProg (c : Dev nD) (k : Fin 12) : PP F :=
  Prog.lift (.enqueueDma (xPiece c k) (.here (stSlab k)) (.dma (ldS k))
    ((View.wordExact_bits rfl).reshape _ _) ((View.wordExact_bits rfl).reshape _ _) ⟨Or.inl rfl, trivial⟩)

/-- Wait for piece `k` of `x`, round it and store it in its slab. -/
def castProg (c : Dev nD) (k : Fin 12) : PP F := do
  Prog.lift (.waitDma2 (ldS k) (xPiece c k) (stSlab k)
    ((View.wordExact_bits rfl).reshape _ _) ((View.wordExact_bits rfl).reshape _ _))
  let v ← Prog.lift (.load stM (slabR k).toLoadRect (View.loadsAt_vmem h_S1x64x1024))
  let _ ← Prog.lift (.load zM (slabR k).toLoadRect (View.loadsAt_vmem h_S1x64x1024))
  Prog.lift (.store zM (slabR k) (k0_pay1 v) Finset.univ
    (View.stores_vmem h_S1x64x1024
      ((Memref.isWhole_whole (κ := .tc) cc0_scratch0).storeExact_slice rfl _ (slab_packed k)) (fun _ => rfl)) (.inl rfl))

/-- Start transfer `t` to device `d`. -/
def sendProg (c d : Dev nD) (t : Tr) : PP F :=
  Prog.lift (.enqueueDma (srcM c t) (.remote (Dev.tc d) (dstM c t) (.dma (sndS t))) (.dma (rcvS t))
    (srcM_words c t) (oPiece_words _ _ (sOff_words c t)) ⟨⟨rfl, Or.inl rfl⟩, trivial⟩)

/-- Wait until the transfer `t` sent to us has landed. -/
def recvProg (c : Dev nD) (t : Tr) : PP F :=
  Prog.lift (.waitDma2 (rcvS t) (zSlab (waitSlab t)) (recM c t) (zSlab_words _) (oPiece_words _ _ (rOff_words c t)))

/-- Wait until our own transfer `t` has read its source. -/
def doneProg (c : Dev nD) (t : Tr) : PP F :=
  Prog.lift (.waitDma2 (sndS t) (dstM c t) (srcM c t) (oPiece_words _ _ (sOff_words c t)) (srcM_words c t))

/-- The program of a step, `d t` being the receiver of transfer `t`. -/
def Step.prog (c : Dev nD) (d : Tr → Dev nD) : Step → PP F
  | .ld k => ldProg c k
  | .cast k => castProg c k
  | .send t => sendProg c (d t) t
  | .recv t => recvProg c t
  | .done t => doneProg c t

/-- Run a list of steps, then `e`. -/
def runL (c : Dev nD) (d : Tr → Dev nD) : List Step → PP F → PP F
  | [], e => e
  | s :: l, e => Prog.bind (s.prog c d) fun _ => runL c d l e

/-- Load all pieces. -/
abbrev seg1 : List Step := [.ld 0, .ld 1, .ld 2, .ld 3, .ld 4, .ld 5, .ld 6, .ld 7, .ld 8, .ld 9, .ld 10, .ld 11]
/-- Round a piece and send it along z. -/
abbrev grp2 (k : Fin 12) : List Step := [.cast k, .send (.z k)]
/-- Receive a piece along z and pass it on both ways. -/
abbrev grp3 (p : Fin 8) : List Step := [.recv (.z ⟨p.val, by omega⟩), .send (.xf p), .send (.yf p)]
/-- Receive two pieces. -/
abbrev grp4 (p : Fin 8) : List Step := [.recv (.xf p), .recv (.yf p)]

/-- All steps, in the order of the body. -/
abbrev steps : List Step :=
  seg1 ++
  (grp2 0 ++ grp2 1 ++ grp2 2 ++ grp2 3 ++ grp2 4 ++ grp2 5 ++ grp2 6 ++ grp2 7 ++ grp2 8 ++ grp2 9 ++ grp2 10 ++ grp2 11) ++
  (grp3 0 ++ grp3 1 ++ grp3 2 ++ grp3 3 ++ grp3 4 ++ grp3 5 ++ grp3 6 ++ grp3 7) ++
  (grp4 0 ++ grp4 1 ++ grp4 2 ++ grp4 3 ++ grp4 4 ++ [.send (.xr 0)] ++ grp4 5 ++ [.send (.xr 1)] ++
    [.recv (.xf 6), .send (.yr 0), .recv (.yf 6), .recv (.xf 7), .send (.yr 1), .recv (.yf 7)]) ++
  [.recv (.z 8), .recv (.z 9), .recv (.z 10), .recv (.z 11), .recv (.xr 0), .recv (.xr 1), .recv (.yr 0), .recv (.yr 1)] ++
  [.done (.z 0), .done (.z 1), .done (.z 2), .done (.z 3), .done (.z 4), .done (.z 5), .done (.z 6), .done (.z 7),
   .done (.z 8), .done (.z 9), .done (.z 10), .done (.z 11),
   .done (.xf 0), .done (.yf 0), .done (.xf 1), .done (.yf 1), .done (.xf 2), .done (.yf 2), .done (.xf 3), .done (.yf 3),
   .done (.xf 4), .done (.yf 4), .done (.xf 5), .done (.yf 5), .done (.xf 6), .done (.yf 6), .done (.xf 7), .done (.yf 7),
   .done (.xr 0), .done (.xr 1), .done (.yr 0), .done (.yr 1)]

/-- The barrier semaphore. -/
abbrev barS : Sem sig := (SemArray.scalar (sig.barrier 0 rfl) : Sems sig S_).sem

/-- The whole body: read the permutation, tell the four peers that we have started, wait for theirs, run the steps. -/
def prog : PP F := do
  let c : Dev nD ← Prog.lift .deviceId
  let v : Elt F .i32 ← smemLoad pM (Rect.unit (s := S2) (k0_off1 c) S1.size (k0_off1_inb c)) numel1_S1 rfl
  have h : k0_chk1 c v := (← Prog.lift (TpuEff.assume (k0_chk1 c v) (k0_chk1.dec c v))).down
  let v' : Elt F .i32 ← smemLoad pM (Rect.unit (s := S2) ![0] S1.size inb_S2_S1_0) numel1_S1 rfl
  have h' : k0_chk2 c v' := (← Prog.lift (TpuEff.assume (k0_chk2 c v') (k0_chk2.dec c v'))).down
  semSignalWord (⟨k0_dev1 c v, k0_dev1_lt c v h⟩ : Dev nD) barS 1#32
  semSignalWord (⟨k0_dev2 c v', k0_dev2_lt c v' h'⟩ : Dev nD) barS 1#32
  semSignalWord (xDev c) barS 1#32
  semSignalWord (yDev c) barS 1#32
  semWaitWord barS 4#32
  runL c (tgt c v h) steps (pure ⟨⟩)

set_option maxRecDepth 65536 in
/-- The kernel's body is that program. -/
theorem body_eq (t : Fin cfg0.N) : bodyAt0 t = prog (F := F) := by
  show cc0_body _ _ _ _ _ _ _ _ _ _ _ _ _ _ _ _ _ _ _ _ _ = _
  rfl

end Cert.Exchange
-- ==== Proof.Mesh.lean ====
module

public import proofs.«01_k».proof.Proof.Steps

/-!
# The mesh: who talks to whom, and where the rows land

The eight devices are the points `(x, y, z)` of a cube. Every transfer goes along one axis, so its
receiver is an involution of its sender. The rows at which the thirty-two transfers land on a device
partition its output.
-/

@[expose] public section

noncomputable section

open Idealize.ShloMosaic Idealize.SL.Sem
open Cert.KernelIdeal Cert.KernelIdeal.Gen

namespace Cert.Exchange

/-- The device that needs our block of `x`, which is also the device whose block we need: our
neighbour along z when the permutation swaps (`b`), ourselves when it keeps. -/
def zOf (b : Bool) (c : Dev nD) : Dev nD :=
  if b then ⟨c.val + 1 - 2 * (c.val % 2), by have : c.val < 8 := c.isLt; show _ < 8; omega⟩ else c

/-- The permutation's value at our place along z. -/
def permAt (b : Bool) (z : ℕ) : BitVec 32 := BitVec.ofNat 32 (if b then 1 - z else z)

/-- The device at the other end of a transfer. -/
def peer (b : Bool) (c : Dev nD) : Tr → Dev nD
  | .z _ => zOf b c
  | .xf _ => xDev c
  | .yf _ => yDev c
  | .xr _ => xDev c
  | .yr _ => yDev c

/-- The device whose block of `x` the rows landing by a transfer carry. -/
def org (b : Bool) (c : Dev nD) : Tr → Dev nD
  | .z _ => zOf b c
  | .xf _ => zOf b (xDev c)
  | .yf _ => zOf b (yDev c)
  | .xr _ => zOf b (xDev (yDev c))
  | .yr _ => zOf b (xDev (yDev c))

/-- The transfer by which we received what we pass on. -/
def via : Tr → Tr
  | .z k => .z k
  | .xf p => .z ⟨p.val, by omega⟩
  | .yf p => .z ⟨p.val, by omega⟩
  | .xr j => .yf ⟨j.val + 4, by omega⟩
  | .yr j => .xf ⟨j.val + 6, by omega⟩

/-- A z transfer reads a slab, any other one reads rows of the output. -/
def isZ : Tr → Bool
  | .z _ => true
  | _ => false

theorem chk1_ok : ∀ b c, k0_chk1 c (permAt b (c.val % 2)) := by decide +kernel
theorem chk2_ok : ∀ b c, k0_chk2 c (permAt b 0) := by decide +kernel

theorem dev1_eq : ∀ b c, k0_dev1 c (permAt b (c.val % 2)) = (zOf b c).val := by decide +kernel
theorem dev2_eq : ∀ b c, k0_dev2 c (permAt b 0) = (zOf b c).val := by decide +kernel
theorem dev5_eq : ∀ b c, k0_dev5 c (permAt b (c.val % 2)) = (zOf b c).val := by decide +kernel

theorem zOf_zOf : ∀ b c, zOf b (zOf b c) = c := by decide +kernel
theorem xDev_xDev : ∀ c, xDev (xDev c) = c := by decide +kernel
theorem yDev_yDev : ∀ c, yDev (yDev c) = c := by decide +kernel
theorem xDev_zOf : ∀ b c, xDev (zOf b c) = zOf b (xDev c) := by decide +kernel
theorem yDev_zOf : ∀ b c, yDev (zOf b c) = zOf b (yDev c) := by decide +kernel
theorem yDev_xDev : ∀ c, yDev (xDev c) = xDev (yDev c) := by decide +kernel
theorem xDev_ne : ∀ c, xDev c ≠ c := by decide +kernel
theorem yDev_ne : ∀ c, yDev c ≠ c := by decide +kernel

/-- The receivers the body computes are the peers. -/
theorem tgt_eq (b : Bool) (c : Dev nD) (h : k0_chk1 c (permAt b (c.val % 2))) :
    tgt c (permAt b (c.val % 2)) h = peer b c := by
  funext t
  cases t with
  | z k => exact Fin.ext (dev5_eq b c)
  | _ => rfl

/-- The peer's peer is the device itself. -/
theorem peer_peer (b : Bool) (c : Dev nD) (t : Tr) : peer b (peer b c t) t = c := by
  cases t with
  | z k => exact zOf_zOf b c
  | xf p => exact xDev_xDev c
  | yf p => exact yDev_yDev c
  | xr p => exact xDev_xDev c
  | yr p => exact yDev_yDev c

/-- Exchanging every device with its peer for a transfer. -/
def peerEquiv (b : Bool) (t : Tr) : Dev nD ≃ Dev nD where
  toFun c := peer b c t
  invFun c := peer b c t
  left_inv c := peer_peer b c t
  right_inv c := peer_peer b c t

/-- The rows a z transfer carries are those of the sender's own block. -/
theorem org_z (b : Bool) (c : Dev nD) (k : Fin 12) : org b (peer b c (.z k)) (.z k) = c := zOf_zOf b c

/-- Passing rows on does not change whose rows they are. -/
theorem org_via (b : Bool) (c : Dev nD) (t : Tr) (h : isZ t = false) : org b (peer b c t) t = org b c (via t) := by
  cases t with
  | z k => exact absurd h (Bool.noConfusion)
  | xf p => show zOf b (xDev (xDev c)) = zOf b c; rw [xDev_xDev]
  | yf p => show zOf b (yDev (yDev c)) = zOf b c; rw [yDev_yDev]
  | xr j => show zOf b (xDev (yDev (xDev c))) = zOf b (yDev c); rw [yDev_xDev, xDev_xDev]
  | yr j => show zOf b (xDev (yDev (yDev c))) = zOf b (xDev c); rw [yDev_yDev]

/-- All rows on a device come from devices at one place along z. -/
theorem org_mod (b : Bool) (c : Dev nD) (t : Tr) : (org b c t).val % 2 = (zOf b c).val % 2 := by
  cases t with
  | z k => rfl
  | xf p => revert p c b; decide +kernel
  | yf p => revert p c b; decide +kernel
  | xr j => revert j c b; decide +kernel
  | yr j => revert j c b; decide +kernel

/-! ## Rows -/

/-- The first row of a quarter of the output. -/
abbrev quarter (c : Dev nD) : ℕ := 1024 * (c.val / 4) + 512 * ((c.val / 2) % 2)

/-- The number of the 64-row piece at which a transfer lands. -/
def rNum (c : Dev nD) : Tr → ℕ
  | .z k => if k.val < 8 then 16 * (c.val / 4) + 8 * ((c.val / 2) % 2) + k.val
      else (k.val - 8 + 24) - (16 * (c.val / 4) + 8 * ((c.val / 2) % 2))
  | .xf p => (8 * ((c.val / 2) % 2) + p.val + 16) - 16 * (c.val / 4)
  | .yf p => (16 * (c.val / 4) + p.val + 8) - 8 * ((c.val / 2) % 2)
  | .xr j => (j.val + 4 + 24) - (16 * (c.val / 4) + 8 * ((c.val / 2) % 2))
  | .yr j => (j.val + 6 + 24) - (16 * (c.val / 4) + 8 * ((c.val / 2) % 2))

theorem zoff_eq (c : Dev nD) (k : Fin 12) : zoff c k = ![0, 64 * rNum c (.z k), 0] := by
  have hc : c.val < 8 := c.isLt
  unfold zoff
  show _ = ![0, 64 * (if k.val < 8 then 16 * (c.val / 4) + 8 * ((c.val / 2) % 2) + k.val
    else (k.val - 8 + 24) - (16 * (c.val / 4) + 8 * ((c.val / 2) % 2))), 0]
  by_cases h : k.val < 8
  · rw [if_pos h, if_pos h, k0_off2_eq c ⟨k.val, h⟩]
    congr 2
    show 1024 * (c.val / 4) + 512 * (c.val / 2 % 2) + 64 * k.val = _
    omega
  · rw [if_neg h, if_neg h, k0_off3_eq c ⟨k.val - 8, by omega⟩]
    congr 2
    show 64 * (k.val - 8) + 1536 - (1024 * (c.val / 4) + 512 * (c.val / 2 % 2)) = _
    omega

/-- Where a transfer lands, as a row number. -/
theorem rOff_eq (c : Dev nD) (t : Tr) : rOff c t = ![0, 64 * rNum c t, 0] := by
  have hc : c.val < 8 := c.isLt
  cases t with
  | z k => exact zoff_eq c k
  | xf p =>
    refine (k0_off4_eq c p).trans ?_
    congr 2
    show 512 * (c.val / 2 % 2) + 64 * p.val + 1024 - 1024 * (c.val / 4) =
      64 * (8 * (c.val / 2 % 2) + p.val + 16 - 16 * (c.val / 4))
    omega
  | yf p =>
    refine (k0_off5_eq c p).trans ?_
    congr 2
    show 1024 * (c.val / 4) + 64 * p.val + 512 - 512 * (c.val / 2 % 2) =
      64 * (16 * (c.val / 4) + p.val + 8 - 8 * (c.val / 2 % 2))
    omega
  | xr j =>
    refine (k0_off3_eq c ⟨j.val + 4, by omega⟩).trans ?_
    congr 2
    show 64 * (j.val + 4) + 1536 - (1024 * (c.val / 4) + 512 * (c.val / 2 % 2)) =
      64 * (j.val + 4 + 24 - (16 * (c.val / 4) + 8 * (c.val / 2 % 2)))
    omega
  | yr j =>
    refine (k0_off3_eq c ⟨j.val + 6, by omega⟩).trans ?_
    congr 2
    show 64 * (j.val + 6) + 1536 - (1024 * (c.val / 4) + 512 * (c.val / 2 % 2)) =
      64 * (j.val + 6 + 24 - (16 * (c.val / 4) + 8 * (c.val / 2 % 2)))
    omega

/-- A transfer's rows are named alike by its sender and its receiver. -/
theorem sOff_eq : ∀ b c t, sOff c t = rOff (peer b c t) t := by
  intro b c t
  rw [rOff_eq]
  have hc : c.val < 8 := c.isLt
  cases t with
  | z k =>
    show zoff c k = _
    rw [zoff_eq]
    congr 3
    revert k c b; decide +kernel
  | xf p => refine (k0_off2_eq c p).trans ?_; revert p c b; decide +kernel
  | yf p => refine (k0_off2_eq c p).trans ?_; revert p c b; decide +kernel
  | xr j => revert j c b; decide +kernel
  | yr j => revert j c b; decide +kernel

/-- What is passed on is read where it landed. -/
theorem sOff_via (c : Dev nD) (t : Tr) (h : isZ t = false) : sOff c t = rOff c (via t) := by
  cases t with
  | z k => exact absurd h (Bool.noConfusion)
  | xf p => show _ = zoff c _; unfold zoff; rw [if_pos p.isLt]; rfl
  | yf p => show _ = zoff c _; unfold zoff; rw [if_pos p.isLt]; rfl
  | xr j => rfl
  | yr j => rfl

theorem rNum_inj : ∀ c t t', rNum c t = rNum c t' → t = t' := by decide +kernel
theorem rNum_surj : ∀ (c : Dev nD) (n : Fin 32), ∃ t, rNum c t = n.val := by decide +kernel

/-- The rows of a transfer's landing place, as a set of the output's indices. -/
theorem mem_rPiece (c : Dev nD) (t : Tr) (i : S1x2048x1024.Idx) :
    i ∈ (pieceR (rOff c t) (rOff_inb c t)).set ↔ (i 1).val / 64 = rNum c t := by
  rw [Rect.mem_set_unit]
  have e := rOff_eq c t
  have h0 : (i 0).val < 1 := (i 0).isLt
  have h2 : (i 2).val < 1024 := (i 2).isLt
  rw [e]
  constructor
  · intro h
    have h1 : 64 * rNum c t ≤ (i 1).val ∧ (i 1).val < 64 * rNum c t + 64 := h 1
    omega
  · intro h a
    match a with
    | 0 => exact ⟨Nat.zero_le _, by show (i 0).val < 0 + 1; omega⟩
    | 1 => exact ⟨by show 64 * rNum c t ≤ (i 1).val; omega, by show (i 1).val < 64 * rNum c t + 64; omega⟩
    | 2 => exact ⟨Nat.zero_le _, by show (i 2).val < 0 + 1024; omega⟩

/-- Different transfers land on different rows. -/
theorem rPiece_disjoint (c : Dev nD) (t t' : Tr) (h : t ≠ t') :
    Disjoint (pieceR (rOff c t) (rOff_inb c t)).set (pieceR (rOff c t') (rOff_inb c t')).set := by
  rw [Finset.disjoint_left]
  intro i hi hi'
  rw [mem_rPiece] at hi hi'
  exact h (rNum_inj c t t' (hi.symm.trans hi'))

/-- Every row is landed on. -/
theorem rPiece_cover (c : Dev nD) :
    (Finset.univ : Finset Tr).biUnion (fun t => (pieceR (rOff c t) (rOff_inb c t)).set) = Finset.univ := by
  ext i
  have h1 : (i 1).val < 2048 := (i 1).isLt
  obtain ⟨t, ht⟩ := rNum_surj c ⟨(i 1).val / 64, by omega⟩
  exact ⟨fun _ => Finset.mem_univ _,
    fun _ => Finset.mem_biUnion.mpr ⟨t, Finset.mem_univ _, (mem_rPiece c t i).mpr ht.symm⟩⟩

/-- Different slabs share no element. -/
theorem slab_disjoint (k k' : Fin 12) (h : k ≠ k') : Disjoint (slabR k).set (slabR k').set := by
  rw [Finset.disjoint_left]
  intro i hi hi'
  rw [Rect.mem_set_unit] at hi hi'
  have a : k.val ≤ (i 0).val ∧ (i 0).val < k.val + 1 := hi 0
  have a' : k'.val ≤ (i 0).val ∧ (i 0).val < k'.val + 1 := hi' 0
  exact h (Fin.ext (by omega))

/-- The slabs cover their buffer. -/
theorem slab_cover : (Finset.univ : Finset (Fin 12)).biUnion (fun k => (slabR k).set) = Finset.univ := by
  ext i
  have h0 : (i 0).val < 12 := (i 0).isLt
  have h1 : (i 1).val < 64 := (i 1).isLt
  have h2 : (i 2).val < 1024 := (i 2).isLt
  refine ⟨fun _ => Finset.mem_univ _, fun _ => Finset.mem_biUnion.mpr ⟨⟨(i 0).val, h0⟩, Finset.mem_univ _, ?_⟩⟩
  rw [Rect.mem_set_unit]
  intro a
  match a with
  | 0 => exact ⟨le_refl _, Nat.lt_succ_self _⟩
  | 1 => exact ⟨Nat.zero_le _, by show (i 1).val < 0 + 64; omega⟩
  | 2 => exact ⟨Nat.zero_le _, by show (i 2).val < 0 + 1024; omega⟩

end Cert.Exchange
-- ==== Proof.Contents.lean ====
module

public import proofs.«01_k».proof.Proof.Mesh
public import Idealize.ShloMosaic.Lib.Pipeline.Kit
public import Idealize.ShloMosaic.Lib.ViewIndex

/-!
# What the pieces hold

Every row of the output is a rounded row of some device's block of `x`. The sets of elements that the
transfers touch, and what reading and writing them gives.
-/

@[expose] public section

noncomputable section

open Idealize.ShloMosaic Idealize.ShloMosaic.TcCoe Idealize.SL.Sem
open Cert.KernelIdeal Cert.KernelIdeal.Gen

namespace Cert.Exchange

variable {F : FTy → Type} [FloatOps F]

/-- Device `d`'s block of `x`, rounded. -/
def cont (m : (ℓ : Loc nD τ sig) → Buf (Elt F) ℓ) (d : Dev nD) : S1x2048x1024.Idx → Elt F .bf16 :=
  truncf (s := S1x2048x1024) .bf16 (m ((d : Thread nD τ).loc main_arg0)) bitsLt_bf16_f32

/-- The elements of a piece of the output are those of its rectangle. -/
theorem oPiece_set (off : Fin 3 → ℕ) (h : ∀ a, off a + S1x64x1024.size a ≤ S1x2048x1024.size a) :
    (oPiece off h).view.set = (pieceR off h).set :=
  (View.set_reshape _ _).trans (View.set_slice_whole _ _)

theorem xPiece_set (c : Dev nD) (k : Fin 12) : (xPiece c k).view.set = (pieceR (zoff c k) (zoff_inb c k)).set :=
  (View.set_reshape _ _).trans (View.set_slice_whole _ _)

theorem zSlab_set (k : Fin 12) : (zSlab k).view.set = (slabR k).set :=
  (View.set_reshape _ _).trans (View.set_slice_whole _ _)

theorem stSlab_set (k : Fin 12) : (stSlab k).view.set = (slabR k).set :=
  (View.set_reshape _ _).trans (View.set_slice_whole _ _)

theorem oPiece_congr {off off' : Fin 3 → ℕ} (e : off = off') (h h') : oPiece off h = oPiece off' h' := by
  subst e; rfl

/-- The sender's name for the landing place is the receiver's. -/
theorem dstM_eq (b : Bool) (c : Dev nD) (t : Tr) : dstM c t = recM (peer b c t) t := oPiece_congr (sOff_eq b c t) _ _

/-- What is passed on is read where it landed. -/
theorem dstM_via (c : Dev nD) (t : Tr) (h : isZ t = false) : dstM c t = recM c (via t) :=
  oPiece_congr (sOff_via c t h) _ _

/-- A transfer other than along z reads at its sender the rows it writes at its receiver. -/
theorem srcM_eq (c : Dev nD) (t : Tr) (h : isZ t = false) : srcM c t = dstM c t := by
  cases t with
  | z k => exact absurd h (Bool.noConfusion)
  | _ => rfl

/-- A piece written with what is read through `v` of `g` holds `g`. -/
theorem write_read_on {κ : Kind} {sp : Space} {s : Shape} {e : EltTy} (v : View sig κ sp s e) (fd g : v.ty.Contents (Elt F))
    (w : s.Idx → Elt F e) (hw : w = v.read (Elt F) g) : ∀ i ∈ v.set, v.write (Elt F) fd w Finset.univ i = g i := by
  intro i hi
  rw [hw, View.write_read_eq_piecewise, View.setOn_univ]
  exact Finset.piecewise_eq_of_mem _ _ _ hi

/-- Rounding the slab that holds piece `k` of `x` and storing it makes the slab hold the rounded piece. -/
theorem cast_read (m : (ℓ : Loc nD τ sig) → Buf (Elt F) ℓ) (c : Dev nD) (k : Fin 12)
    (f : (stM.access (slabR k)).ty.Contents (Elt F)) (g : (zM.access (slabR k)).ty.Contents (Elt F))
    (hf : (stSlab k).view.read (Elt F) f = (xPiece c k).view.read (Elt F) (m ((c : Thread nD τ).loc main_arg0))) :
    (zSlab k).view.read (Elt F) ((zM.access (slabR k)).write (Elt F) g (k0_pay1 ((stM.access (slabR k)).read (Elt F) f)) Finset.univ)
      = (oPiece (zoff c k) (zoff_inb c k)).view.read (Elt F) (cont m c) := by
  funext j
  have e3 (x : S64x1024.Idx) : Shape.reshapeEquiv shapeCasts_S64x1024_S1x64x1024
      (Shape.reshapeEquiv squeezes_S1x64x1024_S64x1024.numel_eq x) = x := by
    rw [Shape.reshapeEquiv_reshapeEquiv, Shape.reshapeEquiv_self]
  have e1 : (stM.access (slabR k)).read (Elt F) f (Shape.reshapeEquiv squeezes_S1x64x1024_S64x1024.numel_eq j)
      = (stSlab k).view.read (Elt F) f j := rfl
  have e2 : (zSlab k).view.read (Elt F)
      ((zM.access (slabR k)).write (Elt F) g (k0_pay1 ((stM.access (slabR k)).read (Elt F) f)) Finset.univ) j
      = k0_pay1 ((stM.access (slabR k)).read (Elt F) f) (Shape.reshapeEquiv squeezes_S1x64x1024_S64x1024.numel_eq j) :=
    congrFun (View.read_write_univ (v := zM.access (slabR k)) (Val := Elt F) g _) _
  rw [e2]
  show FloatOps.truncf .bf16 bitsLt_bf16_f32 ((stM.access (slabR k)).read (Elt F) f (Shape.reshapeEquiv shapeCasts_S1x64x1024_S64x1024
    (Shape.reshapeEquiv shapeCasts_S64x1024_S1x64x1024 (Shape.reshapeEquiv squeezes_S1x64x1024_S64x1024.numel_eq j)))) = _
  rw [e3, e1, hf]
  rfl

end Cert.Exchange
-- ==== Proof.Protocol.lean ====
module

public import proofs.«01_k».proof.Proof.Contents
public import Idealize.ShloMosaic.Lib.Rounds
public import Idealize.ShloMosaic.Lib.Pipeline.Launch
public import Idealize.ShloMosaic.Lib.Pipeline.BigSepL
public import Idealize.ShloMosaic.Lib.Tactic

/-!
# The protocol

Every semaphore of a device runs one round. The barrier waits for four units, one from each signal of
its peers; with a unit a peer hands over the rows of its output that we may write. A transfer's
receiving semaphore hands its owner the rows that landed, its sending semaphore hands back what was
read. Levels order the waits: barrier, then z, then the first hop along x or y, then the second.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

namespace Cert.Exchange

variable {F : FTy → Type} [FloatOps F]

/-! ## Semaphores -/

/-- A device's semaphores: the barrier, those of the local loads, those of the transfers at their
sender and at their receiver. -/
inductive CI where
  | bar
  | ld (k : Fin 12)
  | snd (t : Tr)
  | rcv (t : Tr)
  deriving DecidableEq

/-- A semaphore is the barrier or a member of one of three families. -/
def CI.equiv : (Unit ⊕ Fin 12 ⊕ Tr ⊕ Tr) ≃ CI where
  toFun
    | .inl _ => .bar
    | .inr (.inl k) => .ld k
    | .inr (.inr (.inl t)) => .snd t
    | .inr (.inr (.inr t)) => .rcv t
  invFun
    | .bar => .inl ()
    | .ld k => .inr (.inl k)
    | .snd t => .inr (.inr (.inl t))
    | .rcv t => .inr (.inr (.inr t))
  left_inv := by rintro (_ | _ | _ | _) <;> rfl
  right_inv := by rintro (_ | _ | _ | _) <;> rfl

instance : Fintype CI := Fintype.ofEquiv _ CI.equiv

/-- Where a semaphore is. -/
@[reducible] def csem : CI → SemLoc sig
  | .bar => .reg barS
  | .ld k => .dma (ldS k)
  | .snd t => .dma (sndS t)
  | .rcv t => .dma (rcvS t)

theorem csem_inj : ∀ i j, csem i = csem j → i = j := by decide +kernel

/-- A semaphore of a device. -/
abbrev kcell (x : Dev nD × CI) : GSem nD τ sig := ((x.1 : Thread nD τ), csem x.2)

theorem kcell_injective : Function.Injective kcell := by
  rintro ⟨c, i⟩ ⟨c', i'⟩ h
  have h1 : c = c' := congrArg (fun g : GSem nD τ sig => g.1.1) h
  have h2 : i = i' := csem_inj i i' (congrArg Prod.snd h)
  rw [h1, h2]

open Classical in
/-- Which of the named semaphores is at a place, if any. -/
def cellIdx (s : SemLoc sig) : Option CI := if h : ∃ i, csem i = s then some h.choose else none

theorem cellIdx_csem (i : CI) : cellIdx (csem i) = some i := by
  have h : ∃ j, csem j = csem i := ⟨i, rfl⟩
  unfold cellIdx
  rw [dif_pos h, csem_inj _ _ h.choose_spec]

theorem cellIdx_none (s : SemLoc sig) (h : ∀ i, csem i ≠ s) : cellIdx s = none :=
  dif_neg fun ⟨i, e⟩ => h i e

/-- What a load credits. -/
abbrev NL : ℕ := (stSlab 0).view.dmaCredit
/-- What a transfer credits. -/
abbrev NT : ℕ := (zSlab 0).view.dmaCredit

theorem NL_pos : 0 < NL := View.dmaCredit_pos _ (by decide)
theorem NT_pos : 0 < NT := View.dmaCredit_pos _ (by decide)

/-- What one duty contributes to a semaphore. -/
def CI.unit : CI → ℕ
  | .bar => 1
  | .ld _ => NL
  | .snd _ => NT
  | .rcv _ => NT

theorem CI.unit_pos (i : CI) : 0 < i.unit := by
  cases i with
  | bar => exact Nat.one_pos
  | ld k => exact NL_pos
  | snd t => exact NT_pos
  | rcv t => exact NT_pos

/-- The duties of a semaphore's only round: four at the barrier, else one. -/
def CI.duties : CI → Finset (Fin 4)
  | .bar => Finset.univ
  | _ => {0}

/-- The level of a semaphore. -/
def CI.lvl : CI → ℕ
  | .bar => 1
  | .rcv (.z _) => 2
  | .rcv (.xf _) => 3
  | .rcv (.yf _) => 3
  | .rcv (.xr _) => 4
  | .rcv (.yr _) => 4
  | _ => 0

/-! ## Assertions -/

/-- The ghost state of the rounds. -/
abbrev UB : Type := URounds (GSem nD τ sig) (Fin 4)
/-- All ghost state. -/
abbrev UU : Type := UR sig nD τ × UB

local notation "𝕄" => MT nD τ sig Unit (Elt F) ℕ UU ℕ

/-- The staging's part of the ghost state. -/
abbrev EP : Emb (UR sig nD τ) (MT nD τ sig Unit (Elt F) ℕ UU ℕ) := embL
/-- The rounds' part of the ghost state. -/
abbrev ER : Emb UB (MT nD τ sig Unit (Elt F) ℕ UU ℕ) := embR

variable (b : Bool) (m : (ℓ : Loc nD τ sig) → Buf (Elt F) ℓ)

/-- The share of its source that a transfer takes: two transfers read what came along z. -/
def shr : Tr → PosShare TreeShare
  | .xf _ => fullShare.left
  | .yf _ => fullShare.right
  | _ => fullShare

/-- What a transfer reads, holding what it is to deliver. -/
def srcRes (c : Dev nD) (t : Tr) : sProp 𝕄 :=
  iprop(∃ fs : Buf (Elt F) ((srcM c t).view.loc (c : Thread nD τ)),
    ⌜(srcM c t).view.read (Elt F) fs = (dstM c t).view.read (Elt F) (cont m (org b (peer b c t) t))⌝
      ∗ ((srcM c t).view.loc (c : Thread nD τ) ↦[(srcM c t).view.set]{shr t} fs))

/-- A piece of the output of `c` with contents `g`, held at a share. -/
def pieceRes (c : Dev nD) (off : Fin 3 → ℕ) (h : ∀ a, off a + S1x64x1024.size a ≤ S1x2048x1024.size a)
    (q : PosShare TreeShare) (g : S1x2048x1024.Idx → Elt F .bf16) : sProp 𝕄 :=
  (oPiece off h).view.loc (c : Thread nD τ) ↦[(oPiece off h).view.set]{q} (g : Buf (Elt F) ((oPiece off h).view.loc (c : Thread nD τ)))

omit [FloatOps F] in
theorem pieceRes_congr (c : Dev nD) {off off' : Fin 3 → ℕ} (e : off = off') (h h') (q : PosShare TreeShare)
    (g : S1x2048x1024.Idx → Elt F .bf16) : pieceRes c off h q g = pieceRes c off' h' q g := by
  subst e; rfl

/-- The rows at which a transfer lands on `c`, with any contents. -/
def landRes (c : Dev nD) (t : Tr) : sProp 𝕄 := iprop(∃ g, pieceRes c (rOff c t) (rOff_inb c t) fullShare g)

/-- The rows at which a transfer landed on `c`, with a share `q`. -/
def gotRes (c : Dev nD) (t : Tr) (q : PosShare TreeShare) : sProp 𝕄 :=
  pieceRes c (rOff c t) (rOff_inb c t) q (cont m (org b c t))

/-- A piece of our block of `x`. -/
def xRes (c : Dev nD) (k : Fin 12) : sProp 𝕄 :=
  (xPiece c k).view.loc (c : Thread nD τ) ↦[(xPiece c k).view.set]{fullShare} m ((c : Thread nD τ).loc main_arg0)

/-- A slab of the loading buffer. -/
def stRes (c : Dev nD) (k : Fin 12) : sProp 𝕄 :=
  iprop(∃ f : Buf (Elt F) ((stSlab k).view.loc (c : Thread nD τ)),
    (stSlab k).view.loc (c : Thread nD τ) ↦[(stSlab k).view.set]{fullShare} f)

/-- A slab of the buffer of rounded pieces. -/
def zRes (c : Dev nD) (k : Fin 12) : sProp 𝕄 :=
  iprop(∃ f : Buf (Elt F) ((zSlab k).view.loc (c : Thread nD τ)),
    (zSlab k).view.loc (c : Thread nD τ) ↦[(zSlab k).view.set]{fullShare} f)

/-- What a load delivers: the piece of `x` back, and the slab holding it. -/
def ldRes (c : Dev nD) (k : Fin 12) : sProp 𝕄 :=
  iprop((∃ f : Buf (Elt F) ((stSlab k).view.loc (c : Thread nD τ)),
      ⌜(stSlab k).view.read (Elt F) f = (xPiece c k).view.read (Elt F) (m ((c : Thread nD τ).loc main_arg0))⌝
        ∗ ((stSlab k).view.loc (c : Thread nD τ) ↦[(stSlab k).view.set]{fullShare} f))
    ∗ xRes m c k)

/-- The transfers a peer announces with a signal: nothing with the first signal along z (it is sent
twice), those along z with the second, those along x and y with the third and fourth. -/
def announced : Fin 4 → List Tr
  | 0 => []
  | 1 => (List.finRange 12).map .z
  | 2 => (List.finRange 8).map .xf ++ (List.finRange 2).map .xr
  | 3 => (List.finRange 8).map .yf ++ (List.finRange 2).map .yr

/-- What a semaphore's duty hands to its owner. -/
def pay (c : Dev nD) : CI → Fin 4 → sProp 𝕄
  | .bar, d => bigSepL (announced d) fun t => landRes (peer b c t) t
  | .ld k, _ => ldRes m c k
  | .snd t, _ => srcRes b m c t
  | .rcv t, _ => gotRes b m c t fullShare

omit [FloatOps F] in
/-- A list of storable assertions is storable. -/
theorem bigSepL_storable {I : Type} (l : List I) (Φ : I → sProp 𝕄) (h : ∀ i, BI.Storable (upEmb : UEmb _ 𝕄) (Φ i)) :
    BI.Storable (upEmb : UEmb _ 𝕄) (bigSepL l Φ) := by
  induction l with
  | nil => show BI.Storable (upEmb : UEmb _ 𝕄) iprop(emp); infer_instance
  | cons i l ih => rw [bigSepL_cons']; have := h i; infer_instance

instance pay_storable (c : Dev nD) (i : CI) (d : Fin 4) : BI.Storable (upEmb : UEmb _ 𝕄) (pay b m c i d) := by
  cases i with
  | bar => exact bigSepL_storable _ _ fun t => by unfold landRes pieceRes; infer_instance
  | ld k => unfold pay ldRes xRes; infer_instance
  | snd t => unfold pay srcRes; infer_instance
  | rcv t => unfold pay gotRes pieceRes; infer_instance

/-- The schedule: one round. -/
def Rd : Schedule (GSem nD τ sig) (Fin 4) 𝕄 where
  duties g r := if r = 0 then (match cellIdx g.2 with | some i => i.duties | none => ∅) else ∅
  amount g _ _ := match cellIdx g.2 with | some i => i.unit | none => 1
  payload g _ d := match cellIdx g.2 with | some i => pay b m g.1.1 i d | none => iprop(emp)
  amount_pos g _ _ _ := by
    cases cellIdx g.2 with
    | none => exact Nat.one_pos
    | some i => exact i.unit_pos

instance Rd_storable (g : GSem nD τ sig) (r : ℕ) (d : Fin 4) :
    BI.Storable (upEmb : UEmb _ 𝕄) ((Rd b m).payload g r d) := by
  show BI.Storable (upEmb : UEmb _ 𝕄) (match cellIdx g.2 with | some i => pay b m g.1.1 i d | none => iprop(emp))
  cases cellIdx g.2 with
  | none => infer_instance
  | some i => exact pay_storable b m _ i d

theorem duties_at (c : Dev nD) (i : CI) : (Rd b m).duties ((c : Thread nD τ), csem i) 0 = i.duties := by
  show (if 0 = 0 then (match cellIdx (csem i) with | some i => i.duties | none => ∅) else ∅) = _
  rw [if_pos rfl, cellIdx_csem]

theorem duties_later (g : GSem nD τ sig) (r : ℕ) (h : 1 ≤ r) : (Rd b m).duties g r = ∅ :=
  if_neg (by omega)

theorem amount_at (c : Dev nD) (i : CI) (r : ℕ) (d : Fin 4) : (Rd b m).amount ((c : Thread nD τ), csem i) r d = i.unit := by
  show (match cellIdx (csem i) with | some i => i.unit | none => 1) = _
  rw [cellIdx_csem]

theorem payload_at (c : Dev nD) (i : CI) (r : ℕ) (d : Fin 4) :
    (Rd b m).payload ((c : Thread nD τ), csem i) r d = pay b m c i d := by
  show (match cellIdx (csem i) with | some i => pay b m c i d | none => iprop(emp)) = _
  rw [cellIdx_csem]

/-- What a semaphore's owner waits for. -/
def CI.total : CI → ℕ
  | .bar => 4
  | i => i.unit

theorem expect_at (c : Dev nD) (i : CI) : (Rd b m).expect ((c : Thread nD τ), csem i) 0 = i.total := by
  unfold Schedule.expect Schedule.amountOf
  rw [duties_at, Finset.sum_congr rfl fun d _ => amount_at b m c i 0 d, Finset.sum_const, smul_eq_mul]
  cases i with
  | bar => rfl
  | ld k => exact one_mul _
  | snd t => exact one_mul _
  | rcv t => exact one_mul _

/-- What a wait on a DMA semaphore delivers. -/
theorem rest_at (c : Dev nD) (i : CI) (h : i ≠ .bar) :
    bigSep ((Rd b m).duties ((c : Thread nD τ), csem i) 0 \ ∅) (fun d => (Rd b m).payload ((c : Thread nD τ), csem i) 0 d)
      = pay b m c i 0 := by
  have e : i.duties = {0} := by
    cases i with
    | bar => exact absurd rfl h
    | _ => rfl
  rw [Finset.sdiff_empty, duties_at, e, bigSep_singleton, payload_at]

/-- What the wait on the barrier delivers. -/
theorem rest_bar (c : Dev nD) :
    bigSep ((Rd b m).duties ((c : Thread nD τ), csem .bar) 0 \ ∅) (fun d => (Rd b m).payload ((c : Thread nD τ), csem .bar) 0 d)
      = iprop(pay b m c .bar 0 ∗ pay b m c .bar 1 ∗ pay b m c .bar 2 ∗ pay b m c .bar 3) := by
  rw [Finset.sdiff_empty, duties_at]
  show bigSep Finset.univ _ = _
  rw [bigSep_univ_eq_bigSepL [0, 1, 2, 3] (by decide) (by decide), bigSepL_cons_cons, bigSepL_cons_cons, bigSepL_cons_cons,
    bigSepL_singleton, payload_at, payload_at, payload_at, payload_at]
  rfl

/-! ## What is owed, and the levels -/

/-- The credit that the transfers of a list owe to their receivers, the first of the list being paid first. -/
def owed (c : Dev nD) : List Tr → CellTallies nD τ sig Unit
  | [] => 0
  | t :: l => owed c l + tallyAt ((peer b c t : Thread nD τ), csem (.rcv t)) () NT

/-- The places levels are given at. -/
def L (g : GSem nD τ sig) : Finset Unit := if g.1.2 = .tc then {()} else ∅
/-- The level of a place. -/
def lv (g : GSem nD τ sig) (_ : Unit) : ℕ := match cellIdx g.2 with | some i => i.lvl | none => 0

theorem L_of_ne (g : GSem nD τ sig) (h : g.1.2 ≠ .tc) : L g = ∅ := if_neg h
theorem L_tc (c : Dev nD) (sm : SemLoc sig) : L ((c : Thread nD τ), sm) = {()} := if_pos rfl

theorem lv_at (c : Dev nD) (i : CI) (u : Unit) : lv ((c : Thread nD τ), csem i) u = i.lvl := by
  show (match cellIdx (csem i) with | some i => i.lvl | none => 0) = _
  rw [cellIdx_csem]

/-- A sum of two tallies is positive only where one of them is. -/
theorem pos_add {A B : CellTallies nD τ sig Unit} {g : GSem nD τ sig} {u : Unit} (h : 0 < (A + B) g u) : 0 < A g u ∨ 0 < B g u := by
  rw [Pi.add_apply, Finsupp.add_apply] at h
  omega

/-- A single tally is positive only at its place. -/
theorem pos_tallyAt {g g' : GSem nD τ sig} {n : ℕ} {u : Unit} (h : 0 < (tallyAt g () n : CellTallies nD τ sig Unit) g' u) : g' = g := by
  by_contra hn
  rw [tallyAt_apply, if_neg (fun h' => hn h'.1)] at h
  exact Nat.lt_irrefl 0 h

/-- What a list owes is owed to the receivers of its transfers. -/
theorem owed_pos (c : Dev nD) (l : List Tr) {g : GSem nD τ sig} {u : Unit} (h : 0 < owed b c l g u) :
    ∃ t ∈ l, g = ((peer b c t : Thread nD τ), csem (.rcv t)) := by
  induction l with
  | nil => exact absurd h (Nat.lt_irrefl 0)
  | cons t l ih =>
    rcases pos_add h with h | h
    · obtain ⟨t', ht', e⟩ := ih h
      exact ⟨t', List.mem_cons_of_mem _ ht', e⟩
    · exact ⟨t, List.mem_cons_self, pos_tallyAt h⟩

omit [FloatOps F] in
/-- A wait on a place of level below everything owed. -/
theorem mayWait_of (c : Dev nD) (sm : SemLoc sig) (n : ℕ) (hs : lv ((c : Thread nD τ), sm) () = n) (O : CellTallies nD τ sig Unit)
    (h : ∀ g u, 0 < O g u → ∃ (d : Dev nD) (i : CI), g = ((d : Thread nD τ), csem i) ∧ n < i.lvl) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨d, i, e, -⟩ := h g u hg; rw [e, L_tc]; exact Finset.mem_singleton_self _)
    (fun p hp => by rw [Finset.mem_singleton.mp hp, hs])
    (fun g u hg => by obtain ⟨d, i, e, hi⟩ := h g u hg; rw [e, lv_at]; exact hi)

omit [FloatOps F] in
/-- A wait below everything that a list of transfers owes. -/
theorem mayWait_list (c : Dev nD) (i : CI) (l : List Tr) (h : ∀ t ∈ l, i.lvl < (CI.rcv t).lvl) :
    (levAts L lv : sProp 𝕄) ⊢ MayWait (c : Thread nD τ) (csem i) () (owed b c l) :=
  mayWait_of c (csem i) i.lvl (lv_at c i ()) _ fun g u hg => by
    obtain ⟨t, ht, e⟩ := owed_pos b c l hg
    exact ⟨_, _, e, h t ht⟩

end Cert.Exchange
-- ==== Proof.Body.lean ====
module

public import proofs.«01_k».proof.Proof.Protocol

/-!
# The body's steps

Each step of the body, from what it needs to what it leaves.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

namespace Cert.Exchange

variable {F : FTy → Type} [FloatOps F]

local notation "𝕄" => MT nD τ sig Unit (Elt F) ℕ UU ℕ

variable (b : Bool) (m : (ℓ : Loc nD τ sig) → Buf (Elt F) ℓ) (K : Dev nD × CI → ℕ)

/-- Nothing varies. -/
abbrev 𝒱₀ : Variants := Variants.none

/-- What every device knows: each semaphore's invariant, that its round has been reached, and the levels. -/
def recs : sProp 𝕄 :=
  iprop((bigSep Finset.univ fun x : Dev nD × CI => cellInv ER (Rd b m) (K x) (kcell x))
    ∗ (bigSep Finset.univ fun x : Dev nD × CI => reached ER (kcell x) 0) ∗ levAts L lv)

instance recs_persistent : BI.Persistent (recs b m K) := by unfold recs; infer_instance

/-- One semaphore's invariant, out of all. -/
theorem inv_of (x : Dev nD × CI) :
    (bigSep Finset.univ fun x : Dev nD × CI => (cellInv ER (Rd b m) (K x) (kcell x) : sProp 𝕄)) ⊢ cellInv ER (Rd b m) (K x) (kcell x) :=
  bigSep_elim (Finset.mem_univ x)

omit [FloatOps F] in
/-- That one semaphore's round has been reached, out of all. -/
theorem reached_of (x : Dev nD × CI) :
    (bigSep Finset.univ fun x : Dev nD × CI => (reached ER (kcell x) 0 : sProp 𝕄)) ⊢ reached ER (kcell x) 0 :=
  bigSep_elim (Finset.mem_univ x)

theorem recs_inv (x : Dev nD × CI) : recs b m K ⊢ cellInv ER (Rd b m) (K x) (kcell x) := by
  unfold recs
  iintro ⟨H, -, -⟩
  iapply (inv_of b m K x); iexact H

theorem recs_reached (x : Dev nD × CI) : recs b m K ⊢ reached ER (kcell x) 0 := by
  unfold recs
  iintro ⟨-, H, -⟩
  iapply (reached_of x); iexact H

theorem recs_lev : recs b m K ⊢ levAts L lv := by
  unfold recs
  iintro ⟨-, -, H⟩
  iexact H

/-- The device owes the transfers of a list. -/
def owesL (c : Dev nD) (l : List Tr) : sProp 𝕄 := iprop(∃ W, owes (c : Thread nD τ) (owed b c l) W)

/-- The machine's rule for a program of the device. -/
abbrev wpc (c : Dev nD) (p : PP F) (Q : PUnit → sProp 𝕄) : sProp 𝕄 :=
  wp frame (wpE (defs₀ (F := F)) 𝒱₀ (c : Thread nD τ) none) Set.univ p Q

/-- An effect and then `k`. -/
theorem bind_lift {α : Type} (e : TpuEff nD τ sig (Elt F) Λ₀ .tc α) (k : α → PP F) : Prog.bind (Prog.lift e) k = .op e k := rfl

omit [FloatOps F] in
/-- The room for a transfer at its receiver, named as the sender names it. -/
theorem landRes_peer (c : Dev nD) (t : Tr) : (landRes (peer b c t) t : sProp 𝕄)
    = iprop(∃ g : Buf (Elt F) ((dstM c t).view.loc (peer b c t : Thread nD τ)),
        (dstM c t).view.loc (peer b c t : Thread nD τ) ↦[(dstM c t).view.set]{fullShare} g) := by
  unfold landRes
  simp only [← pieceRes_congr (peer b c t) (sOff_eq b c t) (sOff_inb c t) (rOff_inb (peer b c t) t)]
  rfl

/-- Sending: what is read, the room at the peer and both duties' tokens, for the right to wait until it has been read. -/
theorem step_send (c : Dev nD) (t : Tr) (l : List Tr) (k : PUnit → PP F) (Q : PUnit → sProp 𝕄) :
    iprop(recs b m K ∗ owesL b c (t :: l) ∗ srcRes b m c t ∗ landRes (peer b c t) t
        ∗ dutyTok ER ((c : Thread nD τ), csem (.snd t)) 0 (0 : Fin 4) ∗ dutyTok ER ((peer b c t : Thread nD τ), csem (.rcv t)) 0 (0 : Fin 4))
      ⊢ iprop(((owesL b c l ∗ cred (tallyAt ((c : Thread nD τ), csem (.snd t)) () NT)) -∗ wpc c (k ⟨⟩) Q)
          -∗ wpc c (Prog.bind (sendProg c (peer b c t) t) k) Q) := by
  rw [landRes_peer]
  unfold owesL srcRes sendProg
  rw [bind_lift]
  iintro ⟨#HR, ⟨%W, HO⟩, ⟨%fs, %hfs, Hs⟩, ⟨%g, Hd⟩, Ht₁, Ht₂⟩ Hk
  iapply (Rounds.wp_send_pointsTo 𝒱₀ ER (Rd b m) (c : Thread nD τ) none (c' := (peer b c t : Thread nD τ))
      (src := srcM c t) (dst := dstM c t) (κ₁ := K (c, .snd t)) (κ₂ := K (peer b c t, .rcv t))
      (r₁ := 0) (r₂ := 0) (d₁ := (0 : Fin 4)) (d₂ := (0 : Fin 4)) (fs := fs) (fd := g) (q := shr t)
      (by rw [duties_at b m c (.snd t)]; exact Finset.mem_singleton_self _)
      (by rw [duties_at b m (peer b c t) (.rcv t)]; exact Finset.mem_singleton_self _)
      () () NT rfl (amount_at b m c (.snd t) 0 0) (amount_at b m (peer b c t) (.rcv t) 0 0) (owed b c l) rfl (W := W)
      (by
        rw [payload_at b m c (.snd t)]
        show _ ⊢ srcRes b m c t
        unfold srcRes
        iintro H
        iexists fs
        isplitr
        · ipureintro; exact hfs
        iexact H)
      (by
        rw [payload_at b m (peer b c t) (.rcv t)]
        show _ ⊢ gotRes b m (peer b c t) t fullShare
        unfold gotRes
        rw [← pieceRes_congr (peer b c t) (sOff_eq b c t) (sOff_inb c t) (rOff_inb (peer b c t) t)]
        unfold pieceRes
        exact Entails.of_eq (pointsTo_congr (write_read_on (dstM c t).view g (cont m (org b (peer b c t) t)) _ hfs))))
    $$ [HO Hs Hd Ht₁ Ht₂]
  · isplitr; · iapply (recs_inv b m K (c, .snd t)); iexact HR
    isplitr; · iapply (recs_inv b m K (peer b c t, .rcv t)); iexact HR
    isplitl [Hs]; · iexact Hs
    isplitl [Hd]; · iexact Hd
    isplitl [HO]; · iexact HO
    isplitl [Ht₁]; · iexact Ht₁
    isplitr; · iapply (recs_reached b m K (c, .snd t)); iexact HR
    isplitl [Ht₂]; · iexact Ht₂
    iapply (recs_reached b m K (peer b c t, .rcv t)); iexact HR
  iintro ⟨Hc, HO⟩
  iapply Hk
  isplitl [HO]
  · iexists W; iexact HO
  iexact Hc

/-- A wait for all of a DMA semaphore: it delivers what the semaphore hands over, and its counter is zero for good. -/
theorem step_wait (c : Dev nD) (i : CI) (hi : i ≠ .bar) (l : List Tr) (hl : ∀ t ∈ l, i.lvl < (CI.rcv t).lvl)
    (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (csem i) i.unit Kt)
    (k : PUnit → PP F) (Q : PUnit → sProp 𝕄) :
    iprop(recs b m K ∗ owesL b c l ∗ cred (tallyAt ((c : Thread nD τ), csem i) () i.unit) ∗ atPos ER ((c : Thread nD τ), csem i) 0 (∅ : Finset (Fin 4)) 0)
      ⊢ iprop(((owesL b c l ∗ pay b m c i 0 ∗ semVal ((c : Thread nD τ), csem i) 0) -∗ wpc c (k ⟨⟩) Q)
          -∗ wpc c (.op w k) Q) := by
  unfold owesL
  iintro ⟨#HR, ⟨%W, HO⟩, Hc, Ha⟩ Hk
  iapply (Rounds.wp_wait_rest_token 𝒱₀ ER (Rd b m) (c : Thread nD τ) none (κ := K (c, i)) hw (Set.mem_univ _) ()
      (O := owed b c l) (W := W) (R := 0) (m := 0) (T := ∅)
      (by
        rw [Nat.zero_add, expect_at b m c i]
        cases i with
        | bar => exact absurd rfl hi
        | _ => rfl))
    $$ [HO Hc Ha]
  · isplitr; · iapply (recs_inv b m K (c, i)); iexact HR
    isplitl [Hc]; · iexact Hc
    isplitl [HO]; · iexact HO
    isplitr; · iapply (mayWait_list b c i l hl); iapply (recs_lev b m K); iexact HR
    iexact Ha
  iintro ⟨HO, Ha, -, Hp⟩
  ihave Hp := (Entails.of_eq (rest_at b m c i hi)) $$ Hp
  imod (Rounds.cell_close ER (Rd b m) (Set.mem_univ (K (c, i))) (fun h => h) (R := 0 + 1)
    (duties_later b m ((c : Thread nD τ), csem i))) $$ [Ha] with Hz
  · isplitr; · iapply (recs_inv b m K (c, i)); iexact HR
    iexact Ha
  iapply Hk
  isplitl [HO]
  · iexists _; iexact HO
  isplitl [Hp]; · iexact Hp
  iexact Hz

/-- Loading a piece of `x`: the piece and a slab, for the right to wait for the load. -/
theorem step_ld (c : Dev nD) (i : Fin 12) (k : PUnit → PP F) (Q : PUnit → sProp 𝕄) :
    iprop(recs b m K ∗ xRes m c i ∗ stRes c i ∗ dutyTok ER ((c : Thread nD τ), csem (.ld i)) 0 (0 : Fin 4))
      ⊢ iprop((cred (tallyAt ((c : Thread nD τ), csem (.ld i)) () NL) -∗ wpc c (k ⟨⟩) Q)
          -∗ wpc c (Prog.bind (ldProg c i) k) Q) := by
  unfold stRes xRes ldProg
  rw [bind_lift]
  iintro ⟨#HR, Hx, ⟨%f, Hs⟩, Ht⟩ Hk
  iapply (Rounds.wp_copy_pointsTo 𝒱₀ ER (Rd b m) (c : Thread nD τ) none (src := xPiece c i) (dst := stSlab i)
      (κ := K (c, .ld i)) (r := 0) (d := (0 : Fin 4)) (q := fullShare) (fs := m ((c : Thread nD τ).loc main_arg0)) (fd := f)
      (by rw [duties_at b m c (.ld i)]; exact Finset.mem_singleton_self _) () NL rfl (amount_at b m c (.ld i) 0 0)
      (by
        rw [payload_at b m c (.ld i)]
        show _ ⊢ ldRes m c i
        unfold ldRes xRes
        iintro ⟨Hd, Hx⟩
        isplitl [Hd]
        · iexists ((stSlab i).view.write (Elt F) f ((xPiece c i).view.read (Elt F) (m ((c : Thread nD τ).loc main_arg0)))
            Finset.univ)
          isplitr
          · ipureintro; exact View.read_write_univ _ ((xPiece c i).view.read (Elt F) (m ((c : Thread nD τ).loc main_arg0)))
          iexact Hd
        iexact Hx))
    $$ [Hx Hs Ht]
  · isplitr; · iapply (recs_inv b m K (c, .ld i)); iexact HR
    isplitl [Hx]; · iexact Hx
    isplitl [Hs]; · iexact Hs
    isplitl [Ht]; · iexact Ht
    iapply (recs_reached b m K (c, .ld i)); iexact HR
  iexact Hk

/-- Rounding a piece: the wait for its load, and the slab it is stored to, for the slab ready to be sent along z. -/
theorem step_cast (c : Dev nD) (i : Fin 12) (l : List Tr) (k : PUnit → PP F) (Q : PUnit → sProp 𝕄) :
    iprop(recs b m K ∗ owesL b c l ∗ cred (tallyAt ((c : Thread nD τ), csem (.ld i)) () NL)
        ∗ atPos ER ((c : Thread nD τ), csem (.ld i)) 0 (∅ : Finset (Fin 4)) 0 ∗ zRes c i)
      ⊢ iprop(((owesL b c l ∗ xRes m c i ∗ stRes c i ∗ srcRes b m c (.z i) ∗ semVal ((c : Thread nD τ), csem (.ld i)) 0)
            -∗ wpc c (k ⟨⟩) Q)
          -∗ wpc c (Prog.bind (castProg c i) k) Q) := by
  show _ ⊢ iprop(_ -∗ wpc c (castProg c i >>= k) Q)
  unfold castProg zRes
  simp only [Prog.lift, Prog.bind_op, Prog.bind_ret]
  iintro ⟨#HR, HO, Hc, Ha, ⟨%g, Hz⟩⟩ Hk
  iapply (step_wait b m K c (.ld i) (fun h => by cases h) l (fun t _ => by cases t <;> exact Nat.succ_pos _)
    (.waitDma2 (ldS i) (xPiece c i) (stSlab i)
      ((View.wordExact_bits rfl).reshape _ _) ((View.wordExact_bits rfl).reshape _ _))
    (wpE_waitDma2_eq 𝒱₀ (c : Thread nD τ) none Set.univ)) $$ [HO Hc Ha]
  · isplitr; · iexact HR
    isplitl [HO]; · iexact HO
    isplitl [Hc]; · iexact Hc
    iexact Ha
  iintro ⟨HO, Hp, Hv⟩
  ihave Hp := (show pay b m c (.ld i) 0 ⊢ iprop((∃ f : Buf (Elt F) ((stSlab i).view.loc (c : Thread nD τ)),
      ⌜(stSlab i).view.read (Elt F) f = (xPiece c i).view.read (Elt F) (m ((c : Thread nD τ).loc main_arg0))⌝
        ∗ ((stSlab i).view.loc (c : Thread nD τ) ↦[(stSlab i).view.set]{fullShare} f))
    ∗ xRes m c i) from BI.Entails.refl _) $$ Hp
  icases Hp with ⟨⟨%f, %hf, Hst⟩, Hx⟩
  iapply (wp_load_rect 𝒱₀ (c : Thread nD τ) none Set.univ (m := stM) (r := slabR i) (f := f)
    (by rw [View.set_slice_whole, stSlab_set])) $$ Hst
  iintro Hst
  iapply (wp_load_rect 𝒱₀ (c : Thread nD τ) none Set.univ (m := zM) (r := slabR i) (f := g)
    (by rw [View.set_slice_whole, zSlab_set])) $$ Hz
  iintro Hz
  iapply (wp_store 𝒱₀ (c : Thread nD τ) none Set.univ (m := zM) (r := slabR i) (f := g) (Mk := Finset.univ)
    (by rw [View.setOn_univ, View.set_slice_whole, zSlab_set])) $$ Hz
  iintro Hz
  iapply Hk
  isplitl [HO]; · iexact HO
  isplitl [Hx]; · iexact Hx
  isplitl [Hst]
  · unfold stRes; iexists f; iexact Hst
  isplitl [Hz]
  · unfold srcRes
    iexists _
    isplitr
    rotate_left
    · iexact Hz
    · ipureintro
      rw [org_z]
      exact cast_read m c i f g hf
  iexact Hv

end Cert.Exchange
-- ==== Proof.Machine.lean ====
module

public import proofs.«01_k».proof.Proof.Body

/-!
# The run of all steps

The assertions that the steps exchange get names (`Piece`), a step then takes some named assertions
and gives others, and that a list of steps can be run from given assertions is a computation.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

namespace Cert.Exchange

variable {F : FTy → Type} [FloatOps F]

local notation "𝕄" => MT nD τ sig Unit (Elt F) ℕ UU ℕ

variable (b : Bool) (m : (ℓ : Loc nD τ sig) → Buf (Elt F) ℓ) (K : Dev nD × CI → ℕ)

/-! ## Passing on what has arrived -/

/-- Rows of the output that read as `g` are those rows of `g`. -/
theorem reread (c : Dev nD) {o o' : Fin 3 → ℕ} (e : o = o') (h : ∀ a, o a + S1x64x1024.size a ≤ S1x2048x1024.size a)
    (h' : ∀ a, o' a + S1x64x1024.size a ≤ S1x2048x1024.size a) (q : PosShare TreeShare) (g : S1x2048x1024.Idx → Elt F .bf16) :
    iprop(∃ fs : Buf (Elt F) ((oPiece o h).view.loc (c : Thread nD τ)),
      ⌜(oPiece o h).view.read (Elt F) fs = (oPiece o h).view.read (Elt F) g⌝
        ∗ ((oPiece o h).view.loc (c : Thread nD τ) ↦[(oPiece o h).view.set]{q} fs))
      ⊣⊢ (pieceRes c o' h' q g : sProp 𝕄) := by
  subst e
  unfold pieceRes
  constructor
  · iintro ⟨%fs, %hfs, H⟩
    ihave H := (Entails.of_eq (pointsTo_congr (show ∀ i ∈ (oPiece o h).view.set, fs i = g i from
      fun i hi => by
        obtain ⟨x, -, rfl⟩ := Finset.mem_map.mp hi
        exact View.eq_of_read_eq (congrFun hfs x)))) $$ H
    iexact H
  · iintro H
    iexists g
    isplitr
    · ipureintro; rfl
    iexact H

/-- A transfer that is not along z reads what arrived with the transfer it passes on. -/
theorem relay (c : Dev nD) (t : Tr) (h : isZ t = false) : srcRes b m c t ⊣⊢ gotRes b m c (via t) (shr t) := by
  unfold srcRes gotRes
  rw [srcM_eq c t h, org_via b c t h]
  exact reread c (sOff_via c t h) (sOff_inb c t) _ (shr t) (cont m (org b c (via t)))

/-- Both halves of what arrived. -/
theorem halves (c : Dev nD) (t : Tr) :
    gotRes b m c t fullShare ⊣⊢ iprop(gotRes b m c t fullShare.left ∗ gotRes b m c t fullShare.right) :=
  pointsTo_share (PosShare.mem_left_op_right fullShare)

/-! ## Names for the assertions -/

/-- The assertions that the steps of one device exchange: pieces of `x`, slabs of both buffers, the
place at a semaphore before and after its only round, the right to signal one's own semaphore, the
right to wait, the right to signal the receiver of a transfer, what a transfer reads, the room for it
at its receiver, and what has arrived. -/
inductive Piece where
  | x (k : Fin 12)
  | st (k : Fin 12)
  | zb (k : Fin 12)
  | before (i : CI)
  | after (i : CI)
  | tok (i : CI)
  | cr (i : CI)
  | rtok (t : Tr)
  | src (t : Tr)
  | land (t : Tr)
  | got (t : Tr)
  deriving DecidableEq

/-- The assertion with a given name. -/
def den (c : Dev nD) : Piece → sProp 𝕄
  | .x k => xRes m c k
  | .st k => stRes c k
  | .zb k => zRes c k
  | .before i => atPos ER ((c : Thread nD τ), csem i) 0 (∅ : Finset (Fin 4)) 0
  | .after i => semVal ((c : Thread nD τ), csem i) 0
  | .tok i => dutyTok ER ((c : Thread nD τ), csem i) 0 (0 : Fin 4)
  | .cr i => cred (tallyAt ((c : Thread nD τ), csem i) () i.unit)
  | .rtok t => dutyTok ER ((peer b c t : Thread nD τ), csem (.rcv t)) 0 (0 : Fin 4)
  | .src t => srcRes b m c t
  | .land t => landRes (peer b c t) t
  | .got t => gotRes b m c t fullShare

/-- What a transfer that arrived is used for: it is passed on, or it stays. -/
def arrived : Tr → List Piece
  | .z k => if h : k.val < 8 then [.src (.xf ⟨k.val, h⟩), .src (.yf ⟨k.val, h⟩)] else [.got (.z k)]
  | .xf p => if h : 6 ≤ p.val then [.src (.yr ⟨p.val - 6, by omega⟩)] else [.got (.xf p)]
  | .yf p => if h : 4 ≤ p.val ∧ p.val < 6 then [.src (.xr ⟨p.val - 4, by omega⟩)] else [.got (.yf p)]
  | t => [.got t]

/-- The end of a transfer along y also takes the half of the source that its twin along x gave back. -/
def half : Tr → List Piece
  | .yf p => [.src (.xf p)]
  | _ => []

/-- What the end of a transfer gives back. -/
def given : Tr → Piece
  | .z k => .zb k
  | .xf p => .src (.xf p)
  | .yf p => .got (.z ⟨p.val, by omega⟩)
  | .xr j => .got (.yf ⟨j.val + 4, by omega⟩)
  | .yr j => .got (.xf ⟨j.val + 6, by omega⟩)

/-- What a step takes. -/
def Step.takes : Step → List Piece
  | .ld k => [.x k, .st k, .tok (.ld k)]
  | .cast k => [.cr (.ld k), .before (.ld k), .zb k]
  | .send t => [.src t, .land t, .tok (.snd t), .rtok t]
  | .recv t => [.cr (.rcv t), .before (.rcv t)]
  | .done t => .cr (.snd t) :: .before (.snd t) :: half t

/-- What a step gives. -/
def Step.gives : Step → List Piece
  | .ld k => [.cr (.ld k)]
  | .cast k => [.x k, .st k, .src (.z k), .after (.ld k)]
  | .send t => [.cr (.snd t)]
  | .recv t => .after (.rcv t) :: arrived t
  | .done t => [.after (.snd t), given t]

/-- What is owed before a step, after which `l` is owed. -/
def Step.owes : Step → List Tr → List Tr
  | .send t, l => t :: l
  | _, l => l

/-- A wait for a transfer's arrival is below all transfers still owed. -/
def Step.okay : Step → List Tr → Bool
  | .recv t, l => l.all fun t' => (CI.rcv t).lvl < (CI.rcv t').lvl
  | _, _ => true

/-! ## What the two waits for a transfer leave -/

theorem arrived_of (c : Dev nD) (t : Tr) : gotRes b m c t fullShare ⊢ bigSepL (arrived t) (den b m c) := by
  cases t with
  | z k =>
    by_cases h : k.val < 8
    · rw [show arrived (.z k) = [.src (.xf ⟨k.val, h⟩), .src (.yf ⟨k.val, h⟩)] from dif_pos h]
      rw [bigSepL_cons', bigSepL_cons', bigSepL_nil]
      show gotRes b m c (via (.xf ⟨k.val, h⟩)) fullShare ⊢ iprop(srcRes b m c (.xf ⟨k.val, h⟩) ∗ srcRes b m c (.yf ⟨k.val, h⟩) ∗ emp)
      iintro H
      icases (halves b m c _).1 $$ H with ⟨H₁, H₂⟩
      isplitl [H₁]
      · iapply (relay b m c (.xf ⟨k.val, h⟩) rfl).2; iexact H₁
      isplitl [H₂]
      · iapply (relay b m c (.yf ⟨k.val, h⟩) rfl).2; iexact H₂
      iempintro
    · rw [show arrived (.z k) = [.got (.z k)] from dif_neg h, bigSepL_cons', bigSepL_nil]
      exact BI.sep_emp.2
  | xf p =>
    by_cases h : 6 ≤ p.val
    · rw [show arrived (.xf p) = [.src (.yr ⟨p.val - 6, by omega⟩)] from dif_pos h]
      rw [bigSepL_cons', bigSepL_nil]
      refine BI.Entails.trans ?_ BI.sep_emp.2
      have e : Tr.xf p = via (.yr ⟨p.val - 6, by omega⟩) := congrArg Tr.xf (Fin.ext (by show p.val = p.val - 6 + 6; omega))
      rw [e]
      exact (relay b m c (.yr ⟨p.val - 6, by omega⟩) rfl).2
    · rw [show arrived (.xf p) = [.got (.xf p)] from dif_neg h, bigSepL_cons', bigSepL_nil]
      exact BI.sep_emp.2
  | yf p =>
    by_cases h : 4 ≤ p.val ∧ p.val < 6
    · rw [show arrived (.yf p) = [.src (.xr ⟨p.val - 4, by omega⟩)] from dif_pos h]
      rw [bigSepL_cons', bigSepL_nil]
      refine BI.Entails.trans ?_ BI.sep_emp.2
      have e : Tr.yf p = via (.xr ⟨p.val - 4, by omega⟩) := congrArg Tr.yf (Fin.ext (by show p.val = p.val - 4 + 4; omega))
      rw [e]
      exact (relay b m c (.xr ⟨p.val - 4, by omega⟩) rfl).2
    · rw [show arrived (.yf p) = [.got (.yf p)] from dif_neg h, bigSepL_cons', bigSepL_nil]
      exact BI.sep_emp.2
  | xr j => rw [show arrived (.xr j) = [.got (.xr j)] from rfl, bigSepL_cons', bigSepL_nil]; exact BI.sep_emp.2
  | yr j => rw [show arrived (.yr j) = [.got (.yr j)] from rfl, bigSepL_cons', bigSepL_nil]; exact BI.sep_emp.2

theorem given_of (c : Dev nD) (t : Tr) : iprop(srcRes b m c t ∗ bigSepL (half t) (den b m c)) ⊢ den b m c (given t) := by
  cases t with
  | z k =>
    show iprop(srcRes b m c (.z k) ∗ emp) ⊢ zRes c k
    unfold srcRes zRes
    iintro ⟨⟨%fs, -, H⟩, -⟩
    iexists fs; iexact H
  | xf p => exact BI.sep_emp.1
  | yf p =>
    rw [show half (.yf p) = [.src (.xf p)] from rfl, bigSepL_cons', bigSepL_nil]
    show iprop(srcRes b m c (.yf p) ∗ srcRes b m c (.xf p) ∗ emp) ⊢ gotRes b m c (via (.yf p)) fullShare
    iintro ⟨H₂, H₁, -⟩
    iapply (halves b m c _).2
    isplitl [H₁]
    · iapply (relay b m c (.xf p) rfl).1; iexact H₁
    iapply (relay b m c (.yf p) rfl).1; iexact H₂
  | xr j => exact BI.Entails.trans BI.sep_emp.1 (relay b m c (.xr j) rfl).1
  | yr j => exact BI.Entails.trans BI.sep_emp.1 (relay b m c (.yr j) rfl).1

theorem den_two (c : Dev nD) (p q : Piece) (l : List Piece) :
    bigSepL (p :: q :: l) (den b m c) = iprop(den b m c p ∗ den b m c q ∗ bigSepL l (den b m c)) := by
  rw [bigSepL_cons', bigSepL_cons']

/-- Every step takes and gives what is written. -/
theorem step_ok (c : Dev nD) (s : Step) (l : List Tr) (hok : s.okay l = true) (k : PUnit → PP F) (Q : PUnit → sProp 𝕄) :
    iprop(recs b m K ∗ owesL b c (s.owes l) ∗ bigSepL s.takes (den b m c))
      ⊢ iprop(((owesL b c l ∗ bigSepL s.gives (den b m c)) -∗ wpc c (k ⟨⟩) Q) -∗ wpc c (Prog.bind (s.prog c (peer b c)) k) Q) := by
  cases s with
  | ld i =>
    simp only [Step.takes, Step.gives, bigSepL_cons', bigSepL_nil]
    show iprop(recs b m K ∗ owesL b c l ∗ xRes m c i ∗ stRes c i ∗ dutyTok ER ((c : Thread nD τ), csem (.ld i)) 0 (0 : Fin 4) ∗ emp)
      ⊢ iprop(((owesL b c l ∗ cred (tallyAt ((c : Thread nD τ), csem (.ld i)) () NL) ∗ emp) -∗ wpc c (k ⟨⟩) Q)
          -∗ wpc c (Prog.bind (ldProg c i) k) Q)
    iintro ⟨HR, HO, Hx, Hs, Ht, -⟩ Hk
    iapply (step_ld b m K c i k Q) $$ [HR Hx Hs Ht]
    · isplitl [HR]; · iexact HR
      isplitl [Hx]; · iexact Hx
      isplitl [Hs]; · iexact Hs
      iexact Ht
    iintro Hc
    iapply Hk
    isplitl [HO]; · iexact HO
    isplitl [Hc]; · iexact Hc
    iempintro
  | cast i =>
    simp only [Step.takes, Step.gives, bigSepL_cons', bigSepL_nil]
    show iprop(recs b m K ∗ owesL b c l ∗ cred (tallyAt ((c : Thread nD τ), csem (.ld i)) () NL)
        ∗ atPos ER ((c : Thread nD τ), csem (.ld i)) 0 (∅ : Finset (Fin 4)) 0 ∗ zRes c i ∗ emp)
      ⊢ iprop(((owesL b c l ∗ xRes m c i ∗ stRes c i ∗ srcRes b m c (.z i) ∗ semVal ((c : Thread nD τ), csem (.ld i)) 0 ∗ emp)
            -∗ wpc c (k ⟨⟩) Q)
          -∗ wpc c (Prog.bind (castProg c i) k) Q)
    iintro ⟨HR, HO, Hc, Ha, Hz, -⟩ Hk
    iapply (step_cast b m K c i l k Q) $$ [HR HO Hc Ha Hz]
    · isplitl [HR]; · iexact HR
      isplitl [HO]; · iexact HO
      isplitl [Hc]; · iexact Hc
      isplitl [Ha]; · iexact Ha
      iexact Hz
    iintro ⟨HO, Hx, Hs, Hz, Hv⟩
    iapply Hk
    isplitl [HO]; · iexact HO
    isplitl [Hx]; · iexact Hx
    isplitl [Hs]; · iexact Hs
    isplitl [Hz]; · iexact Hz
    isplitl [Hv]; · iexact Hv
    iempintro
  | send t =>
    simp only [Step.takes, Step.gives, bigSepL_cons', bigSepL_nil]
    show iprop(recs b m K ∗ owesL b c (t :: l) ∗ srcRes b m c t ∗ landRes (peer b c t) t
        ∗ dutyTok ER ((c : Thread nD τ), csem (.snd t)) 0 (0 : Fin 4) ∗ dutyTok ER ((peer b c t : Thread nD τ), csem (.rcv t)) 0 (0 : Fin 4) ∗ emp)
      ⊢ iprop(((owesL b c l ∗ cred (tallyAt ((c : Thread nD τ), csem (.snd t)) () NT) ∗ emp) -∗ wpc c (k ⟨⟩) Q)
          -∗ wpc c (Prog.bind (sendProg c (peer b c t) t) k) Q)
    iintro ⟨HR, HO, Hs, Hd, Ht₁, Ht₂, -⟩ Hk
    iapply (step_send b m K c t l k Q) $$ [HR HO Hs Hd Ht₁ Ht₂]
    · isplitl [HR]; · iexact HR
      isplitl [HO]; · iexact HO
      isplitl [Hs]; · iexact Hs
      isplitl [Hd]; · iexact Hd
      isplitl [Ht₁]; · iexact Ht₁
      iexact Ht₂
    iintro ⟨HO, Hc⟩
    iapply Hk
    isplitl [HO]; · iexact HO
    isplitl [Hc]; · iexact Hc
    iempintro
  | recv t =>
    simp only [Step.takes, Step.gives, bigSepL_cons', bigSepL_nil]
    show iprop(recs b m K ∗ owesL b c l ∗ cred (tallyAt ((c : Thread nD τ), csem (.rcv t)) () NT)
        ∗ atPos ER ((c : Thread nD τ), csem (.rcv t)) 0 (∅ : Finset (Fin 4)) 0 ∗ emp)
      ⊢ iprop(((owesL b c l ∗ semVal ((c : Thread nD τ), csem (.rcv t)) 0 ∗ bigSepL (arrived t) (den b m c)) -∗ wpc c (k ⟨⟩) Q)
          -∗ wpc c (Prog.bind (recvProg c t) k) Q)
    unfold recvProg
    rw [bind_lift]
    iintro ⟨HR, HO, Hc, Ha, -⟩ Hk
    iapply (step_wait b m K c (.rcv t) (fun h => by cases h) l
      (fun t' ht' => of_decide_eq_true (List.all_eq_true.mp hok t' ht'))
      (.waitDma2 (rcvS t) (zSlab (waitSlab t)) (recM c t) (zSlab_words _) (oPiece_words _ _ (rOff_words c t)))
      (wpE_waitDma2_eq 𝒱₀ (c : Thread nD τ) none Set.univ) k Q) $$ [HR HO Hc Ha]
    · isplitl [HR]; · iexact HR
      isplitl [HO]; · iexact HO
      isplitl [Hc]; · iexact Hc
      iexact Ha
    iintro ⟨HO, Hp, Hv⟩
    iapply Hk
    isplitl [HO]; · iexact HO
    isplitl [Hv]; · iexact Hv
    iapply (show pay b m c (.rcv t) 0 ⊢ _ from arrived_of b m c t); iexact Hp
  | done t =>
    simp only [Step.takes, Step.gives, bigSepL_cons', bigSepL_nil]
    show iprop(recs b m K ∗ owesL b c l ∗ cred (tallyAt ((c : Thread nD τ), csem (.snd t)) () NT)
        ∗ atPos ER ((c : Thread nD τ), csem (.snd t)) 0 (∅ : Finset (Fin 4)) 0 ∗ bigSepL (half t) (den b m c))
      ⊢ iprop(((owesL b c l ∗ semVal ((c : Thread nD τ), csem (.snd t)) 0 ∗ den b m c (given t) ∗ emp) -∗ wpc c (k ⟨⟩) Q)
          -∗ wpc c (Prog.bind (doneProg c t) k) Q)
    unfold doneProg
    rw [bind_lift]
    iintro ⟨HR, HO, Hc, Ha, Hh⟩ Hk
    iapply (step_wait b m K c (.snd t) (fun h => by cases h) l (fun t' _ => by cases t' <;> exact Nat.succ_pos _)
      (.waitDma2 (sndS t) (dstM c t) (srcM c t) (oPiece_words _ _ (sOff_words c t)) (srcM_words c t))
      (fun Kt => (wpE_waitDma2_eq 𝒱₀ (c : Thread nD τ) none Set.univ Kt).trans (by cases t <;> rfl)) k Q) $$ [HR HO Hc Ha]
    · isplitl [HR]; · iexact HR
      isplitl [HO]; · iexact HO
      isplitl [Hc]; · iexact Hc
      iexact Ha
    iintro ⟨HO, Hp, Hv⟩
    ihave Hp := (show pay b m c (.snd t) 0 ⊢ srcRes b m c t from BI.Entails.refl _) $$ Hp
    iapply Hk
    isplitl [HO]; · iexact HO
    isplitl [Hv]; · iexact Hv
    isplitl [Hp Hh]
    · iapply (given_of b m c t)
      isplitl [Hp]; · iexact Hp
      iexact Hh
    iempintro

/-! ## Running a list of steps -/

omit [FloatOps F] in
/-- Separate assertions in another order. -/
theorem bigSepL_reorder {I : Type} {l l' : List I} (h : l.Perm l') (Φ : I → sProp 𝕄) : bigSepL l Φ ⊢ bigSepL l' Φ := by
  induction h with
  | nil => exact BI.Entails.refl _
  | cons i _ ih =>
    rw [bigSepL_cons', bigSepL_cons']
    exact BI.sep_mono (BI.Entails.refl _) ih
  | swap i j l =>
    rw [bigSepL_cons', bigSepL_cons', bigSepL_cons', bigSepL_cons']
    iintro ⟨H₁, H₂, H₃⟩
    isplitl [H₂]; · iexact H₂
    isplitl [H₁]; · iexact H₁
    iexact H₃
  | trans _ _ ih₁ ih₂ => exact ih₁.trans ih₂

/-- Take the pieces of a list out of another one. -/
def takeAll : List Piece → List Piece → Option (List Piece)
  | [], S => some S
  | p :: l, S => if p ∈ S then takeAll l (S.erase p) else none

theorem takeAll_perm : ∀ (l S S' : List Piece), takeAll l S = some S' → S.Perm (l ++ S')
  | [], S, S', h => by cases h; exact List.Perm.refl _
  | p :: l, S, S', h => by
    unfold takeAll at h
    split at h
    · next hp => exact (List.perm_cons_erase hp).trans ((takeAll_perm l _ S' h).cons p)
    · cases h

/-- What a list of steps owes. -/
def owesAll : List Step → List Tr
  | [] => []
  | s :: l => s.owes (owesAll l)

/-- Run a list of steps. -/
def play : List Step → List Piece → Option (List Piece)
  | [], S => some S
  | s :: l, S => if s.okay (owesAll l) then (takeAll s.takes S).bind fun S' => play l (s.gives ++ S') else none

/-- The device runs the steps from what `play` starts from, and has then what `play` ends with. -/
theorem play_ok (c : Dev nD) (e : PP F) (Q : PUnit → sProp 𝕄) : ∀ (l : List Step) (S S' : List Piece), play l S = some S' →
    iprop(recs b m K ∗ owesL b c (owesAll l) ∗ bigSepL S (den b m c))
      ⊢ iprop(((owesL b c [] ∗ bigSepL S' (den b m c)) -∗ wpc c e Q) -∗ wpc c (runL c (peer b c) l e) Q)
  | [], S, S', h => by
    cases h
    show iprop(recs b m K ∗ owesL b c [] ∗ bigSepL S (den b m c)) ⊢ iprop(((owesL b c [] ∗ bigSepL S (den b m c)) -∗ wpc c e Q) -∗ wpc c e Q)
    iintro ⟨-, HO, H⟩ Hk
    iapply Hk
    isplitl [HO]; · iexact HO
    iexact H
  | s :: l, S, S', h => by
    unfold play at h
    split at h
    case isFalse => cases h
    case isTrue hok =>
      obtain ⟨S₁, h₁, h₂⟩ := Option.bind_eq_some_iff.mp h
      show _ ⊢ iprop(_ -∗ wpc c (Prog.bind (s.prog c (peer b c)) fun _ => runL c (peer b c) l e) Q)
      iintro ⟨#HR, HO, H⟩ Hk
      ihave H := (bigSepL_reorder (takeAll_perm _ _ _ h₁) (den b m c)) $$ H
      ihave H := (Entails.of_eq (bigSepL_append s.takes S₁ (den b m c))) $$ H
      icases H with ⟨H₁, H₂⟩
      iapply (step_ok b m K c s (owesAll l) hok (fun _ => runL c (peer b c) l e) Q) $$ [HO H₁]
      · isplitr; · iexact HR
        isplitl [HO]; · iexact HO
        iexact H₁
      iintro ⟨HO, H₁⟩
      iapply (play_ok c e Q l _ S' h₂) $$ [HO H₁ H₂]
      · isplitr; · iexact HR
        isplitl [HO]; · iexact HO
        iapply (Entails.of_eq (bigSepL_append s.gives S₁ (den b m c)).symm)
        isplitl [H₁]; · iexact H₁
        iexact H₂
      iexact Hk

/-! ## The steps of the body -/

/-- All transfers. -/
def trs : List Tr :=
  (List.finRange 12).map .z ++ ((List.finRange 8).map .xf ++ (List.finRange 2).map .xr)
    ++ ((List.finRange 8).map .yf ++ (List.finRange 2).map .yr)

/-- What a device starts its steps with, besides the room at its receivers. -/
def atStart : List Piece :=
  (List.finRange 12).map .x ++ (List.finRange 12).map .st ++ (List.finRange 12).map .zb
    ++ ((List.finRange 12).map fun k => .before (.ld k)) ++ (trs.map fun t => .before (.snd t)) ++ (trs.map fun t => .before (.rcv t))
    ++ ((List.finRange 12).map fun k => .tok (.ld k)) ++ (trs.map fun t => .tok (.snd t))
    ++ trs.map .rtok ++ (trs.map fun t => .cr (.rcv t))

/-- What a device ends its steps with. -/
def atEnd : List Piece :=
  (List.finRange 12).map .x ++ (List.finRange 12).map .st ++ (List.finRange 12).map .zb
    ++ ((List.finRange 12).map fun k => .after (.ld k)) ++ (trs.map fun t => .after (.snd t)) ++ (trs.map fun t => .after (.rcv t))
    ++ trs.map .got

set_option maxRecDepth 100000 in
theorem play_steps : (play steps (trs.map Piece.land ++ atStart)).any (·.isPerm atEnd) = true := by decide +kernel

/-- The device runs the steps of its body. -/
theorem steps_ok (c : Dev nD) (e : PP F) (Q : PUnit → sProp 𝕄) :
    iprop(recs b m K ∗ owesL b c (owesAll steps) ∗ bigSepL (trs.map Piece.land) (den b m c) ∗ bigSepL atStart (den b m c))
      ⊢ iprop(((owesL b c [] ∗ bigSepL atEnd (den b m c)) -∗ wpc c e Q) -∗ wpc c (runL c (peer b c) steps e) Q) := by
  obtain ⟨S, hS, hp⟩ := (Option.any_eq_true _ _).mp play_steps
  iintro ⟨#HR, HO, H₁, H₂⟩ Hk
  iapply (play_ok b m K c e Q steps _ S hS) $$ [HO H₁ H₂]
  · isplitr; · iexact HR
    isplitl [HO]; · iexact HO
    iapply (Entails.of_eq (bigSepL_append (trs.map Piece.land) atStart (den b m c)).symm)
    isplitl [H₁]; · iexact H₁
    iexact H₂
  iintro ⟨HO, H⟩
  iapply Hk
  isplitl [HO]; · iexact HO
  iapply (bigSepL_reorder (List.isPerm_iff.mp hp) (den b m c)); iexact H

end Cert.Exchange
-- ==== Proof.Opening.lean ====
module

public import proofs.«01_k».proof.Proof.Machine

/-!
# The whole body

The opening of the body - reading the permutation, four signals to the barriers of the peers, the
wait on the device's own barrier - followed by the steps.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

namespace Cert.Exchange

variable {F : FTy → Type} [FloatOps F]

local notation "𝕄" => MT nD τ sig Unit (Elt F) ℕ UU ℕ

variable (b : Bool) (m : (ℓ : Loc nD τ sig) → Buf (Elt F) ℓ) (K : Dev nD × CI → ℕ)

/-- The permutation: it swaps the two devices along z, or keeps them. -/
def perm : S2.Idx → Elt F .i32 := fun i => permAt b (i 0).val

/-- What a device owes when only its signal along y is to come: that, and its transfers. -/
def duesY (c : Dev nD) : CellTallies nD τ sig Unit := owed b c (owesAll steps) + tallyAt ((yDev c : Thread nD τ), csem .bar) () 1
/-- The same with the signal along x. -/
def duesX (c : Dev nD) : CellTallies nD τ sig Unit := duesY b c + tallyAt ((xDev c : Thread nD τ), csem .bar) () 1
/-- The same with the second signal along z. -/
def duesZ (c : Dev nD) : CellTallies nD τ sig Unit := duesX b c + tallyAt ((zOf b c : Thread nD τ), csem .bar) () 1
/-- The same with the first signal along z: all that a device owes. -/
def dues (c : Dev nD) : CellTallies nD τ sig Unit := duesZ b c + tallyAt ((zOf b c : Thread nD τ), csem .bar) () 1

omit [FloatOps F] in
/-- Equal assertions at the members of a list. -/
theorem bigSepL_congr_mem {I : Type} (l : List I) {Φ Ψ : I → sProp 𝕄} (h : ∀ i ∈ l, Φ i = Ψ i) : bigSepL l Φ = bigSepL l Ψ := by
  induction l with
  | nil => rfl
  | cons i l ih =>
    rw [bigSepL_cons', bigSepL_cons', h i List.mem_cons_self, ih fun j hj => h j (List.mem_cons_of_mem _ hj)]

/-- The room of the transfers that a signal announces is what the signalled peer is to get. -/
theorem announce (c d : Dev nD) (k : Fin 4) (h : ∀ t ∈ announced k, peer b d t = c) :
    bigSepL (announced k) (fun t => (landRes c t : sProp 𝕄)) = (Rd b m).payload ((d : Thread nD τ), csem .bar) 0 k := by
  rw [payload_at]
  exact bigSepL_congr_mem _ fun t ht => by rw [h t ht]

/-- The first signal hands nothing over. -/
theorem announce_none (d : Dev nD) : (Rd b m).payload ((d : Thread nD τ), csem .bar) 0 0 = iprop(emp) :=
  (payload_at b m d .bar 0 0).trans rfl

theorem peers_one (c : Dev nD) : ∀ t ∈ announced 1, peer b (zOf b c) t = c := fun t ht => by
  obtain ⟨k, -, rfl⟩ := List.mem_map.mp ht
  exact zOf_zOf b c

theorem peers_two (c : Dev nD) : ∀ t ∈ announced 2, peer b (xDev c) t = c := fun t ht => by
  rcases List.mem_append.mp ht with h | h
  all_goals
    obtain ⟨k, -, rfl⟩ := List.mem_map.mp h
    exact xDev_xDev c

theorem peers_three (c : Dev nD) : ∀ t ∈ announced 3, peer b (yDev c) t = c := fun t ht => by
  rcases List.mem_append.mp ht with h | h
  all_goals
    obtain ⟨k, -, rfl⟩ := List.mem_map.mp h
    exact yDev_yDev c

/-- A separate conjunction over all transfers, by the signals that announce them. -/
theorem over_trs (Φ : Tr → sProp 𝕄) :
    bigSepL trs Φ = iprop((bigSepL (announced 1) Φ ∗ bigSepL (announced 2) Φ) ∗ bigSepL (announced 3) Φ) := by
  show bigSepL ((announced 1 ++ announced 2) ++ announced 3) Φ = _
  rw [bigSepL_append, bigSepL_append]

/-- What the wait on the barrier delivers is the room for all transfers at their receivers. -/
theorem room (c : Dev nD) :
    iprop(pay b m c .bar 1 ∗ pay b m c .bar 2 ∗ pay b m c .bar 3) ⊢ bigSepL (trs.map Piece.land) (den b m c) := by
  rw [bigSepL_map]
  show _ ⊢ bigSepL trs fun t => (landRes (peer b c t) t : sProp 𝕄)
  rw [over_trs]
  show iprop(bigSepL (announced 1) (fun t => (landRes (peer b c t) t : sProp 𝕄)) ∗ bigSepL (announced 2) (fun t => (landRes (peer b c t) t : sProp 𝕄))
    ∗ bigSepL (announced 3) fun t => (landRes (peer b c t) t : sProp 𝕄)) ⊢ _
  iintro ⟨H₁, H₂, H₃⟩
  isplitl [H₁ H₂]
  · isplitl [H₁]; · iexact H₁
    iexact H₂
  iexact H₃

theorem k0_off1_eq : ∀ c : Dev nD, k0_off1 c 0 = c.val % 2 := by decide +kernel

/-- The word the device reads first is the permutation at its own place along z. -/
theorem read_own (c : Dev nD) (h) :
    View.readAt (Elt F) pM.view (Rect.unit (s := S2) (k0_off1 c) ![1] h).toLoadRect (perm (F := F) b) = fun _ => permAt b (c.val % 2) := by
  funext i
  show permAt b (k0_off1 c 0 + 1 * (i 0).val) = _
  rw [k0_off1_eq, show (i 0).val = 0 from Nat.lt_one_iff.mp (i 0).isLt, Nat.mul_zero, Nat.add_zero]

/-- The word the device reads second is the permutation at place 0. -/
theorem read_first (h) :
    View.readAt (Elt F) pM.view (Rect.unit (s := S2) ![0] ![1] h).toLoadRect (perm (F := F) b) = fun _ => permAt b 0 := by
  funext i
  show permAt b (0 + 1 * (i 0).val) = _
  rw [show (i 0).val = 0 from Nat.lt_one_iff.mp (i 0).isLt]

/-- A wait on the barrier is below all transfers. -/
theorem below_all (l : List Tr) : ∀ t ∈ l, CI.bar.lvl < (CI.rcv t).lvl := fun t _ => by cases t <;> exact Nat.lt_of_sub_pos (Nat.succ_pos _)

/-- The buffer that holds the permutation. -/
def piRes (c : Dev nD) : sProp 𝕄 := pM.view.loc (c : Thread nD τ) ↦{fullShare} (perm (F := F) b)

/-- What a device's body starts from. -/
def opening (c : Dev nD) : sProp 𝕄 :=
  iprop(recs b m K ∗ (∃ W, owes (c : Thread nD τ) (dues b c) W)
    ∗ atPos ER ((c : Thread nD τ), csem .bar) 0 (∅ : Finset (Fin 4)) 0 ∗ cred (tallyAt ((c : Thread nD τ), csem .bar) () 4)
    ∗ dutyTok ER ((zOf b c : Thread nD τ), csem .bar) 0 (0 : Fin 4) ∗ dutyTok ER ((zOf b c : Thread nD τ), csem .bar) 0 (1 : Fin 4)
    ∗ dutyTok ER ((xDev c : Thread nD τ), csem .bar) 0 (2 : Fin 4) ∗ dutyTok ER ((yDev c : Thread nD τ), csem .bar) 0 (3 : Fin 4)
    ∗ (bigSepL trs fun t => landRes c t) ∗ bigSepL atStart (den b m c) ∗ piRes b c)

/-- What a device's body ends with. -/
def ending (c : Dev nD) : sProp 𝕄 :=
  iprop(owesL b c [] ∗ semVal ((c : Thread nD τ), csem .bar) 0 ∗ bigSepL atEnd (den b m c) ∗ piRes b c)

/-- The body of a device runs. -/
theorem body_ok (c : Dev nD) (Q : PUnit → sProp 𝕄) :
    opening b m K c ⊢ iprop((ending b m c -∗ Q ⟨⟩) -∗ wpc c prog Q) := by
  unfold opening piRes prog
  simp only [smemLoad, semSignalWord, semWaitWord, Prog.lift, Prog.bind_op, Prog.bind_ret, Prog.pure_eq_ret, wp_deviceId]
  rw [over_trs, announce b m c (zOf b c) 1 (peers_one b c), announce b m c (xDev c) 2 (peers_two b c),
    announce b m c (yDev c) 3 (peers_three b c)]
  iintro ⟨#HR, ⟨%W, HO⟩, Ha, Hc, Ht₀, Ht₁, Ht₂, Ht₃, ⟨⟨Hl₁, Hl₂⟩, Hl₃⟩, HS, Hp⟩ Hk
  iapply (wp_load 𝒱₀ (c : Thread nD τ) none Set.univ (m := pM) (Finset.subset_univ _)) $$ Hp
  iintro Hp
  rw [read_own]
  dsimp only [Prog.bind]
  iapply (wp_assume 𝒱₀ (c : Thread nD τ) none Set.univ (chk1_ok b c))
  simp only [smemLoadElt, Prog.bind_op, Prog.bind_ret]
  iapply (wp_load 𝒱₀ (c : Thread nD τ) none Set.univ (m := pM) (Finset.subset_univ _)) $$ Hp
  iintro Hp
  rw [read_first]
  dsimp only [Prog.bind]
  iapply (wp_assume 𝒱₀ (c : Thread nD τ) none Set.univ (chk2_ok b c))
  simp only [dev1_eq b c, dev2_eq b c]
  iapply (Rounds.wp_signal 𝒱₀ ER (Rd b m) (c : Thread nD τ) none (dst := (zOf b c : Thread nD τ)) (κ := K (zOf b c, .bar))
      (d := 0) (by rw [duties_at b m (zOf b c) .bar]; exact Finset.mem_univ _) ((amount_at b m (zOf b c) .bar 0 0).trans (by decide)) ()
      (duesZ b c) rfl) $$ [HO Ht₀]
  · isplitr; · iapply (recs_inv b m K (zOf b c, .bar)); iexact HR
    isplitl [HO]; · iexact HO
    isplitl [Ht₀]; · iexact Ht₀
    isplitr; · rw [announce_none b m (zOf b c)]; iempintro
    iapply (recs_reached b m K (zOf b c, .bar)); iexact HR
  iintro HO
  iapply (Rounds.wp_signal 𝒱₀ ER (Rd b m) (c : Thread nD τ) none (dst := (zOf b c : Thread nD τ)) (κ := K (zOf b c, .bar))
      (d := 1) (by rw [duties_at b m (zOf b c) .bar]; exact Finset.mem_univ _) ((amount_at b m (zOf b c) .bar 0 1).trans (by decide)) ()
      (duesX b c) rfl) $$ [HO Ht₁ Hl₁]
  · isplitr; · iapply (recs_inv b m K (zOf b c, .bar)); iexact HR
    isplitl [HO]; · iexact HO
    isplitl [Ht₁]; · iexact Ht₁
    isplitl [Hl₁]; · iexact Hl₁
    iapply (recs_reached b m K (zOf b c, .bar)); iexact HR
  iintro HO
  iapply (Rounds.wp_signal 𝒱₀ ER (Rd b m) (c : Thread nD τ) none (dst := (xDev c : Thread nD τ)) (κ := K (xDev c, .bar))
      (d := 2) (by rw [duties_at b m (xDev c) .bar]; exact Finset.mem_univ _) ((amount_at b m (xDev c) .bar 0 2).trans (by decide)) ()
      (duesY b c) rfl) $$ [HO Ht₂ Hl₂]
  · isplitr; · iapply (recs_inv b m K (xDev c, .bar)); iexact HR
    isplitl [HO]; · iexact HO
    isplitl [Ht₂]; · iexact Ht₂
    isplitl [Hl₂]; · iexact Hl₂
    iapply (recs_reached b m K (xDev c, .bar)); iexact HR
  iintro HO
  iapply (Rounds.wp_signal 𝒱₀ ER (Rd b m) (c : Thread nD τ) none (dst := (yDev c : Thread nD τ)) (κ := K (yDev c, .bar))
      (d := 3) (by rw [duties_at b m (yDev c) .bar]; exact Finset.mem_univ _) ((amount_at b m (yDev c) .bar 0 3).trans (by decide)) ()
      (owed b c (owesAll steps)) rfl) $$ [HO Ht₃ Hl₃]
  · isplitr; · iapply (recs_inv b m K (yDev c, .bar)); iexact HR
    isplitl [HO]; · iexact HO
    isplitl [Ht₃]; · iexact Ht₃
    isplitl [Hl₃]; · iexact Hl₃
    iapply (recs_reached b m K (yDev c, .bar)); iexact HR
  iintro HO
  iapply (Rounds.wp_wait_rest_token 𝒱₀ ER (Rd b m) (c : Thread nD τ) none (κ := K (c, .bar))
      (wpE_semWait_eq 𝒱₀ (c : Thread nD τ) none Set.univ) (Set.mem_univ _) () (O := owed b c (owesAll steps)) (W := W) (R := 0) (m := 0) (T := ∅)
      (by rw [expect_at b m c .bar]; decide)) $$ [Hc HO Ha]
  · isplitr; · iapply (recs_inv b m K (c, .bar)); iexact HR
    isplitl [Hc]; · iexact Hc
    isplitl [HO]; · iexact HO
    isplitr; · iapply (mayWait_list b c .bar _ (below_all _)); iapply (recs_lev b m K); iexact HR
    iexact Ha
  iintro ⟨HO, Ha, -, Hl⟩
  ihave Hl := (Entails.of_eq (rest_bar b m c)) $$ Hl
  icases Hl with ⟨-, Hl⟩
  ihave Hl := (room b m c) $$ Hl
  imod (Rounds.cell_close ER (Rd b m) (Set.mem_univ (K (c, .bar))) (fun h => h) (R := 0 + 1)
    (duties_later b m ((c : Thread nD τ), csem .bar))) $$ [Ha] with Hz
  · isplitr; · iapply (recs_inv b m K (c, .bar)); iexact HR
    iexact Ha
  rw [tgt_eq b c]
  iapply (steps_ok b m K c _ Q) $$ [HO Hl HS]
  · isplitr; · iexact HR
    isplitl [HO]
    · unfold owesL; iexists _; iexact HO
    isplitl [Hl]; · iexact Hl
    iexact HS
  iintro ⟨HO, HS⟩
  unfold wpc; rw [wp_ret]; imodintro
  iapply Hk
  unfold ending piRes
  isplitl [HO]; · iexact HO
  isplitl [Hz]; · iexact Hz
  isplitl [HS]; · iexact HS
  iexact Hp

end Cert.Exchange
-- ==== Proof.Buffers.lean ====
module

public import proofs.«01_k».proof.Proof.Opening

/-!
# Whole buffers and their pieces

The body works on pieces of the output, of `x` and of its two scratch buffers; here these buffers are
cut into the pieces and put together again.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

namespace Cert.Exchange

variable {F : FTy → Type} [FloatOps F]

local notation "𝕄" => MT nD τ sig Unit (Elt F) ℕ UU ℕ

variable (b : Bool) (m : (ℓ : Loc nD τ sig) → Buf (Elt F) ℓ)

omit [FloatOps F] in
theorem pieceRes_eq (c : Dev nD) (off h) (q : PosShare TreeShare) (g : S1x2048x1024.Idx → Elt F .bf16) :
    (pieceRes c off h q g : sProp 𝕄) = (((c : Thread nD τ).loc cc0_stg1_0) ↦[(pieceR off h).set]{q} g) :=
  congrArg (fun S : Finset S1x2048x1024.Idx => (((c : Thread nD τ).loc cc0_stg1_0) ↦[S]{q} (g : Buf (Elt F) ((c : Thread nD τ).loc cc0_stg1_0)) : sProp 𝕄))
    (oPiece_set off h)

omit [FloatOps F] in
theorem xRes_eq (c : Dev nD) (k : Fin 12) :
    (xRes m c k : sProp 𝕄) = (((c : Thread nD τ).loc main_arg0) ↦[(pieceR (zoff c k) (zoff_inb c k)).set]{fullShare} m ((c : Thread nD τ).loc main_arg0)) :=
  congrArg (fun S : Finset S1x2048x1024.Idx => (((c : Thread nD τ).loc main_arg0) ↦[S]{fullShare} m ((c : Thread nD τ).loc main_arg0) : sProp 𝕄))
    (xPiece_set c k)

omit [FloatOps F] in
theorem zRes_eq (c : Dev nD) (k : Fin 12) :
    (zRes c k : sProp 𝕄) = iprop(∃ f : Buf (Elt F) ((c : Thread nD τ).loc cc0_scratch0), ((c : Thread nD τ).loc cc0_scratch0) ↦[(slabR k).set]{fullShare} f) :=
  congrArg (fun S : Finset S12x64x1024.Idx => iprop(∃ f : Buf (Elt F) ((c : Thread nD τ).loc cc0_scratch0),
    ((c : Thread nD τ).loc cc0_scratch0) ↦[S]{fullShare} f) ) (zSlab_set k)

omit [FloatOps F] in
theorem stRes_eq (c : Dev nD) (k : Fin 12) :
    (stRes c k : sProp 𝕄) = iprop(∃ f : Buf (Elt F) ((c : Thread nD τ).loc cc0_scratch1), ((c : Thread nD τ).loc cc0_scratch1) ↦[(slabR k).set]{fullShare} f) :=
  congrArg (fun S : Finset S12x64x1024.Idx => iprop(∃ f : Buf (Elt F) ((c : Thread nD τ).loc cc0_scratch1),
    ((c : Thread nD τ).loc cc0_scratch1) ↦[S]{fullShare} f) ) (stSlab_set k)

theorem univ_trs : (Finset.univ : Finset Tr) = trs.toFinset := by decide +kernel
theorem trs_nodup : trs.Nodup := by decide +kernel

omit [FloatOps F] in
/-- The output is the rows at which the transfers land. -/
theorem out_pieces (c : Dev nD) (f : S1x2048x1024.Idx → Elt F .bf16) :
    (((c : Thread nD τ).loc cc0_stg1_0) ↦{fullShare} (f : Buf (Elt F) ((c : Thread nD τ).loc cc0_stg1_0)) : sProp 𝕄)
      = bigSepL trs fun t => pieceRes c (rOff c t) (rOff_inb c t) fullShare f := by
  rw [← bigSep_univ_eq_bigSepL trs univ_trs trs_nodup]
  simp only [pieceRes_eq]
  have e := pointsTo_biUnion (Ix := Unit) (Name := ℕ) (U := UU) (Lvl := ℕ) (Val := Elt F) (ℓ := (c : Thread nD τ).loc cc0_stg1_0) (q := fullShare) (f := f)
    Finset.univ (fun t => (pieceR (rOff c t) (rOff_inb c t)).set) (fun t _ t' _ h => rPiece_disjoint c t t' h)
  rw [rPiece_cover] at e
  exact e

omit [FloatOps F] in
/-- The output, whatever it holds, is room for all transfers. -/
theorem out_room (c : Dev nD) (f : S1x2048x1024.Idx → Elt F .bf16) :
    (((c : Thread nD τ).loc cc0_stg1_0) ↦{fullShare} (f : Buf (Elt F) ((c : Thread nD τ).loc cc0_stg1_0)) : sProp 𝕄)
      ⊢ bigSepL trs fun t => landRes c t := by
  rw [out_pieces]
  refine bigSepL_mono fun t _ => ?_
  unfold landRes
  iintro H
  iexists f; iexact H

/-- The transfer that lands on the `n`-th 64 rows. -/
def trOf (c : Dev nD) (n : Fin 32) : Tr := (rNum_surj c n).choose
theorem rNum_trOf (c : Dev nD) (n : Fin 32) : rNum c (trOf c n) = n.val := (rNum_surj c n).choose_spec

/-- The 64 rows an element of the output is in. -/
def rowOf (i : S1x2048x1024.Idx) : Fin 32 := ⟨(i 1).val / 64, by have h : (i 1).val < 2048 := (i 1).isLt; omega⟩

/-- The output of a device: every 64 rows are the rounded rows of the device they came from. -/
def outAt (c : Dev nD) : S1x2048x1024.Idx → Elt F .bf16 := fun i => cont m (org b c (trOf c (rowOf i))) i

/-- Everything that has arrived is the output. -/
theorem out_whole (c : Dev nD) : (bigSepL trs fun t => gotRes b m c t fullShare)
    = (((c : Thread nD τ).loc cc0_stg1_0) ↦{fullShare} (outAt b m c : Buf (Elt F) ((c : Thread nD τ).loc cc0_stg1_0)) : sProp 𝕄) := by
  rw [out_pieces]
  refine bigSepL_congr_mem _ fun t _ => ?_
  unfold gotRes
  rw [pieceRes_eq, pieceRes_eq]
  refine pointsTo_congr fun i hi => ?_
  have hi := (mem_rPiece c t i).mp hi
  show cont m (org b c t) i = cont m (org b c (trOf c (rowOf i))) i
  rw [show trOf c (rowOf i) = t from rNum_inj c _ _ ((rNum_trOf c (rowOf i)).trans hi)]

omit [FloatOps F] in
theorem univ_twelve : (Finset.univ : Finset (Fin 12)) = (List.finRange 12).toFinset := by decide +kernel

omit [FloatOps F] in
/-- A buffer with any contents, cut in twelve. -/
theorem cut (ℓ : Loc nD τ sig) (S : Fin 12 → Finset (Idx ℓ)) (hd : ∀ k k', k ≠ k' → Disjoint (S k) (S k'))
    (hc : Finset.univ.biUnion S = Finset.univ) :
    (iprop(∃ f : Buf (Elt F) ℓ, ℓ ↦{fullShare} f) : sProp 𝕄)
      ⊣⊢ bigSepL (List.finRange 12) fun k => iprop(∃ f : Buf (Elt F) ℓ, ℓ ↦[S k]{fullShare} f) := by
  rw [← bigSep_univ_eq_bigSepL (List.finRange 12) univ_twelve (List.nodup_finRange 12)]
  constructor
  · iintro ⟨%f, H⟩
    ihave H := (Entails.of_eq (show (ℓ ↦{fullShare} f : sProp 𝕄) = bigSep Finset.univ fun k => ℓ ↦[S k]{fullShare} f by
      rw [← pointsTo_biUnion Finset.univ S (fun k _ k' _ h => hd k k' h), hc])) $$ H
    iapply (show (bigSep Finset.univ fun k => ℓ ↦[S k]{fullShare} f : sProp 𝕄)
        ⊢ bigSep Finset.univ fun k => iprop(∃ f : Buf (Elt F) ℓ, ℓ ↦[S k]{fullShare} f) from
      bigSep_mono fun k _ => exists_intro (Φ := fun f : Buf (Elt F) ℓ => (ℓ ↦[S k]{fullShare} f : sProp 𝕄)) f)
    iexact H
  · by_cases hn : Nonempty (Buf (Elt F) ℓ)
    · iintro H
      ihave H := (BI.bigSep_exists_pi Finset.univ fun (k : Fin 12) (f : Buf (Elt F) ℓ) => (ℓ ↦[S k]{fullShare} f : sProp 𝕄)) $$ H
      icases H with ⟨%fs, H⟩
      ihave H := (pointsTo_biUnion_join Finset.univ S fs (fs 0) (fun k _ k' _ h => hd k k' h)) $$ H
      icases H with ⟨%g, -, H⟩
      iexists g
      rw [hc]
      iexact H
    · refine (bigSep_elim (Finset.mem_univ (0 : Fin 12))).trans ?_
      show iprop(∃ f : Buf (Elt F) ℓ, ℓ ↦[S 0]{fullShare} f) ⊢ _
      exact exists_elim fun f => absurd ⟨f⟩ hn

omit [FloatOps F] in
/-- The buffer of rounded pieces. -/
theorem z_cut (c : Dev nD) : (iprop(∃ f : Buf (Elt F) ((c : Thread nD τ).loc cc0_scratch0), ((c : Thread nD τ).loc cc0_scratch0) ↦{fullShare} f) : sProp 𝕄)
    ⊣⊢ bigSepL (List.finRange 12) fun k => zRes c k := by
  simp only [zRes_eq]
  exact cut ((c : Thread nD τ).loc cc0_scratch0) (fun k => (slabR k).set) slab_disjoint slab_cover

omit [FloatOps F] in
/-- The loading buffer. -/
theorem st_cut (c : Dev nD) : (iprop(∃ f : Buf (Elt F) ((c : Thread nD τ).loc cc0_scratch1), ((c : Thread nD τ).loc cc0_scratch1) ↦{fullShare} f) : sProp 𝕄)
    ⊣⊢ bigSepL (List.finRange 12) fun k => stRes c k := by
  simp only [stRes_eq]
  exact cut ((c : Thread nD τ).loc cc0_scratch1) (fun k => (slabR k).set) slab_disjoint slab_cover

/-- The elements of `x` that the device loads. -/
def loaded (c : Dev nD) : Finset S1x2048x1024.Idx := Finset.univ.biUnion fun k : Fin 12 => (pieceR (zoff c k) (zoff_inb c k)).set

/-- The rest of `x`. -/
def xRest (c : Dev nD) : sProp 𝕄 :=
  ((c : Thread nD τ).loc main_arg0) ↦[Finset.univ \ loaded c]{fullShare} m ((c : Thread nD τ).loc main_arg0)

omit [FloatOps F] in
/-- `x` is the pieces the device loads and the rest. -/
theorem x_cut (c : Dev nD) :
    (((c : Thread nD τ).loc main_arg0) ↦{fullShare} m ((c : Thread nD τ).loc main_arg0) : sProp 𝕄)
      ⊣⊢ iprop((bigSepL (List.finRange 12) fun k => xRes m c k) ∗ xRest m c) := by
  unfold xRest
  simp only [xRes_eq]
  rw [← bigSep_univ_eq_bigSepL (List.finRange 12) univ_twelve (List.nodup_finRange 12)]
  have e := pointsTo_biUnion (Ix := Unit) (Name := ℕ) (U := UU) (Lvl := ℕ) (Val := Elt F) (ℓ := (c : Thread nD τ).loc main_arg0) (q := fullShare)
    (f := m ((c : Thread nD τ).loc main_arg0))
    Finset.univ (fun k : Fin 12 => (pieceR (zoff c k) (zoff_inb c k)).set)
    (fun k _ k' _ h => rPiece_disjoint c (.z k) (.z k') fun h' => h (by cases h'; rfl))
  have e' := pointsTo_split_subset (Ix := Unit) (Name := ℕ) (U := UU) (Lvl := ℕ) (Val := Elt F) (ℓ := (c : Thread nD τ).loc main_arg0) (q := fullShare)
    (f := m ((c : Thread nD τ).loc main_arg0)) (I := loaded c) (Finset.subset_univ _)
  rw [show ((c : Thread nD τ).loc main_arg0 ↦[loaded c]{fullShare} m ((c : Thread nD τ).loc main_arg0) : sProp 𝕄) = _ from e] at e'
  exact e'

end Cert.Exchange
-- ==== Proof.Start.lean ====
module

public import proofs.«01_k».proof.Proof.Buffers
public import proofs.«01_k».proof.Proof.Gen.KernelIdeal.Launch
public import Idealize.ShloMosaic.Lib.Pipeline.Kit

/-!
# Before the bodies

The ghost state of the rounds, made for all devices at once and dealt to them, and the credit that the
devices' dues leave at each semaphore.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

namespace Cert.Exchange

variable {F : FTy → Type} [FloatOps F]

local notation "𝕄" => MT nD τ sig Unit (Elt F) ℕ UU ℕ

variable (b : Bool) (m : (ℓ : Loc nD τ sig) → Buf (Elt F) ℓ) (K : Dev nD × CI → ℕ)

/-! ## Listing the semaphores -/

/-- The semaphores of a device that belong to its body alone: all but the barrier. -/
def own : List CI := (List.finRange 12).map .ld ++ (trs.map .snd ++ trs.map .rcv)

theorem own_nodup : (CI.bar :: own).Nodup := by decide +kernel
theorem own_all : (Finset.univ : Finset CI) = (CI.bar :: own).toFinset := by decide +kernel

omit [FloatOps F] in
/-- A separate conjunction over a device's own semaphores. -/
theorem over_own (Φ : CI → sProp 𝕄) : bigSepL own Φ
    = iprop((bigSepL (List.finRange 12) fun k => Φ (.ld k)) ∗ (bigSepL trs fun t => Φ (.snd t)) ∗ bigSepL trs fun t => Φ (.rcv t)) := by
  unfold own
  rw [bigSepL_append, bigSepL_append, bigSepL_map, bigSepL_map, bigSepL_map]

omit [FloatOps F] in
/-- A separate conjunction over all semaphores of a device. -/
theorem over_cells (Φ : CI → sProp 𝕄) : bigSep Finset.univ Φ
    = iprop(Φ .bar ∗ (bigSepL (List.finRange 12) fun k => Φ (.ld k)) ∗ (bigSepL trs fun t => Φ (.snd t)) ∗ bigSepL trs fun t => Φ (.rcv t)) := by
  rw [bigSep_univ_eq_bigSepL (CI.bar :: own) own_all own_nodup, bigSepL_cons', over_own]

/-! ## The rights to signal -/

/-- The rights to signal one device's semaphores: one at each semaphore, three more at the barrier. -/
abbrev Right : Type := CI ⊕ Fin 3

/-- A right, as the rounds name it. -/
def rightAt (x : Dev nD × Right) : GSem nD τ sig × ℕ × Fin 4 :=
  match x.2 with
  | .inl i => (kcell (x.1, i), 0, 0)
  | .inr j => (kcell (x.1, .bar), 0, j.succ)

theorem rightAt_injective : Function.Injective rightAt := by
  rintro ⟨c, j⟩ ⟨c', j'⟩ h
  rcases j with i | k <;> rcases j' with i' | k'
  · have e := kcell_injective (congrArg Prod.fst h)
    exact Prod.ext (Prod.ext_iff.mp e).1 (congrArg Sum.inl (Prod.ext_iff.mp e).2)
  · exact absurd (congrArg (fun x : GSem nD τ sig × ℕ × Fin 4 => x.2.2) h) (Fin.succ_ne_zero k').symm
  · exact absurd (congrArg (fun x : GSem nD τ sig × ℕ × Fin 4 => x.2.2) h) (Fin.succ_ne_zero k)
  · have e := kcell_injective (congrArg Prod.fst h)
    have e' : k.succ = k'.succ := congrArg (fun x : GSem nD τ sig × ℕ × Fin 4 => x.2.2) h
    exact Prod.ext (Prod.ext_iff.mp e).1 (congrArg Sum.inr (Fin.succ_injective 3 e'))

/-- A device's barrier, with one of its four rights. -/
abbrev barTok (c : Dev nD) (d : Fin 4) : sProp 𝕄 := dutyTok ER ((c : Thread nD τ), csem .bar) 0 d

/-- The rights to signal the semaphores of a device. -/
def minted (c : Dev nD) : sProp 𝕄 :=
  iprop((barTok c 0 ∗ (bigSepL (List.finRange 12) fun k => dutyTok ER ((c : Thread nD τ), csem (.ld k)) 0 (0 : Fin 4))
      ∗ (bigSepL trs fun t => dutyTok ER ((c : Thread nD τ), csem (.snd t)) 0 (0 : Fin 4))
      ∗ bigSepL trs fun t => dutyTok ER ((c : Thread nD τ), csem (.rcv t)) 0 (0 : Fin 4))
    ∗ barTok c 1 ∗ barTok c 2 ∗ barTok c 3)

/-- The rights that a device uses: to signal its own loads and sends, and its peers. -/
def used (c : Dev nD) : sProp 𝕄 :=
  iprop((barTok (zOf b c) 0 ∗ (bigSepL (List.finRange 12) fun k => dutyTok ER ((c : Thread nD τ), csem (.ld k)) 0 (0 : Fin 4))
      ∗ (bigSepL trs fun t => dutyTok ER ((c : Thread nD τ), csem (.snd t)) 0 (0 : Fin 4))
      ∗ bigSepL trs fun t => dutyTok ER ((peer b c t : Thread nD τ), csem (.rcv t)) 0 (0 : Fin 4))
    ∗ barTok (zOf b c) 1 ∗ barTok (xDev c) 2 ∗ barTok (yDev c) 3)

omit [FloatOps F] in
theorem minted_eq (c : Dev nD) :
    (bigSep Finset.univ fun j : Right => (dutyTok ER (rightAt (c, j)).1 (rightAt (c, j)).2.1 (rightAt (c, j)).2.2 : sProp 𝕄)) = minted c := by
  rw [BI.bigSep_univ_sum, over_cells, bigSep_univ_eq_bigSepL [(0 : Fin 3), 1, 2] (by decide) (by decide), bigSepL_cons_cons, bigSepL_cons_cons,
    bigSepL_singleton]
  rfl

omit [FloatOps F] in
/-- Something of every device's peer, for all devices, is something of every device. -/
theorem around (l : List Tr) (Φ : Dev nD → Tr → sProp 𝕄) :
    (bigSep Finset.univ fun c : Dev nD => bigSepL l fun t => Φ c t) = bigSep Finset.univ fun c : Dev nD => bigSepL l fun t => Φ (peer b c t) t := by
  induction l with
  | nil => rfl
  | cons t l ih =>
    simp only [bigSepL_cons']
    rw [bigSep_sep', bigSep_sep', ih, bigSep_univ_equiv (peerEquiv b t) fun c => Φ c t]
    rfl

omit [FloatOps F] in
/-- The rights minted are the rights used. -/
theorem dealt : (bigSep Finset.univ fun c : Dev nD => (minted c : sProp 𝕄)) = bigSep Finset.univ fun c : Dev nD => used b c := by
  unfold minted used
  simp only [bigSep_sep']
  rw [around b trs fun c t => (dutyTok ER ((c : Thread nD τ), csem (.rcv t)) 0 (0 : Fin 4) : sProp 𝕄),
    bigSep_univ_equiv (peerEquiv b (.z 0)) fun c => (barTok c 0 : sProp 𝕄),
    bigSep_univ_equiv (peerEquiv b (.z 0)) fun c => (barTok c 1 : sProp 𝕄),
    bigSep_univ_equiv (peerEquiv b (.xf 0)) fun c => (barTok c 2 : sProp 𝕄),
    bigSep_univ_equiv (peerEquiv b (.yf 0)) fun c => (barTok c 3 : sProp 𝕄)]
  rfl

/-! ## The ghost state -/

/-- All semaphores. -/
def allCells : Finset (GSem nD τ sig) := Finset.univ.map ⟨kcell, kcell_injective⟩
/-- All rights. -/
def allRights : Finset (GSem nD τ sig × ℕ × Fin 4) := Finset.univ.map ⟨rightAt, rightAt_injective⟩

/-- The ghost state at the launch. -/
def ghost₀ : UU :=
  (initOf (Pipeline.cells cfgs cellOf_inj) (Pipeline.launchToks cfgs cellOf_inj), initOf allCells allRights)

/-- What a device has of it. -/
def lot (c : Dev nD) : sProp 𝕄 :=
  iprop((bigSep Finset.univ fun i : CI => roundState ER (Rd b m) (kcell (c, i)) 0)
    ∗ (bigSep Finset.univ fun i : CI => iprop(atPos ER (kcell (c, i)) 0 (∅ : Finset (Fin 4)) 0 ∗ reached ER (kcell (c, i)) 0)) ∗ minted c)

theorem fund : BI.own (ER (initOf allCells allRights)) ⊢ (|==> bigSep Finset.univ (lot b m) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allRights (fun x => (dutyTok ER x.1 x.2.1 x.2.2 : sProp 𝕄)) = bigSep Finset.univ fun c : Dev nD => minted c := by
    unfold allRights; rw [bigSep_map, bigSep_univ_prod]
    exact bigSep_congr fun c _ => minted_eq c
  iintro HX
  imod (Rounds.fund ER (Rd b m) allCells allRights) $$ HX with ⟨Hst, Hr, Hat, Htok⟩
  imodintro
  ihave Hst := (Entails.of_eq (hX fun g => roundState ER (Rd b m) g 0)) $$ Hst
  ihave Hat := (Entails.of_eq (hX fun g => atPos ER g 0 (∅ : Finset (Fin 4)) 0)) $$ Hat
  ihave Hr := (Entails.of_eq (hX fun g => reached ER g 0)) $$ Hr
  ihave Htok := (Entails.of_eq hT) $$ Htok
  unfold lot; simp only [bigSep_sep']
  isplitl [Hst]; · iexact Hst
  isplitl [Hat Hr]
  · isplitl [Hat] <;> iassumption
  iexact Htok

/-- The semaphores of the body, as the launch counts them. -/
abbrev ownSem (i : {i : CI // i ≠ .bar}) : SemLoc sig := csem i.val

theorem own_other : (Finset.univ : Finset {i : CI // i ≠ .bar}).map ⟨Subtype.val, Subtype.val_injective⟩ = own.toFinset := by decide +kernel

theorem ownSemFacts : Pipeline.OwnSemFacts cfg0.spec ownSem := by decide +kernel

omit [FloatOps F] in
/-- The body's own semaphores at zero. -/
theorem own_sems (c : Dev nD) : (Pipeline.ownSems0 (Ix := Unit) (Name := ℕ) (U := UU) (Lvl := ℕ) (Val := Elt F) (τ := τ) ownSem c : sProp 𝕄)
    = bigSepL own fun i => semVal ((c : Thread nD τ), csem i) 0 := by
  rw [← bigSep_eq_bigSepL_of_eq own own_other (List.Nodup.of_cons own_nodup), bigSep_map]
  rfl

omit [FloatOps F] in
/-- The barrier at zero. -/
theorem bar_sem (c : Dev nD) : (unscopedSems0 c : sProp 𝕄) = semVal ((c : Thread nD τ), csem .bar) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) ownSem c ∗ unscopedSems0 c ∗ lot b m c)
      ⊢ |={Set.univ}=> iprop((bigSep Finset.univ fun i => iprop(∃ κ : ℕ, cellInv ER (Rd b m) κ (kcell (c, i))))
          ∗ (bigSep Finset.univ fun i => iprop(atPos ER (kcell (c, i)) 0 (∅ : Finset (Fin 4)) 0 ∗ reached ER (kcell (c, i)) 0)) ∗ minted c) := by
  unfold lot
  rw [own_sems, bar_sem]
  iintro ⟨Hos, Hus, Hst, Hat, Htok⟩
  ihave Hv := (Entails.of_eq (show iprop(semVal ((c : Thread nD τ), csem .bar) 0 ∗ bigSepL own fun i => semVal ((c : Thread nD τ), csem i) 0)
      = (bigSep Finset.univ fun i : CI => semVal (kcell (c, i)) 0 : sProp 𝕄) by
    rw [over_own, over_cells])) $$ [Hos Hus]
  · isplitl [Hus] <;> iassumption
  imod (show iprop((bigSep Finset.univ fun i : CI => semVal (kcell (c, i)) 0) ∗ bigSep Finset.univ fun i : CI => roundState ER (Rd b m) (kcell (c, i)) 0)
      ⊢ (|={Set.univ}=> bigSep Finset.univ fun i => iprop(∃ κ : ℕ, cellInv ER (Rd b m) κ (kcell (c, i))) : sProp 𝕄) from by
        rw [← bigSep_sep']
        exact (bigSep_mono fun i _ => (Rounds.body_intro ER (Rd b m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- What every device knows but for the levels. -/
def known : sProp 𝕄 :=
  iprop((bigSep Finset.univ fun x : Dev nD × CI => cellInv ER (Rd b m) (K x) (kcell x))
    ∗ bigSep Finset.univ fun x : Dev nD × CI => reached ER (kcell x) 0)

instance known_persistent : BI.Persistent (known b m K) := by unfold known; infer_instance

/-- What one device has: its places and the rights it uses. -/
def mine (c : Dev nD) : sProp 𝕄 :=
  iprop((bigSep Finset.univ fun i : CI => atPos ER (kcell (c, i)) 0 (∅ : Finset (Fin 4)) 0) ∗ used b c)

/-- The share of a device in the ghost state. -/
def share (c : Dev nD) : sProp 𝕄 := iprop(∃ K, known b m K ∗ mine b c)

theorem share_intro (c : Dev nD) : iprop(known b m K ∗ mine b c) ⊢ share b m c := by
  unfold share
  iintro H
  iexists K
  iexact H

omit [FloatOps F] in
/-- What is known to all, beside each. -/
theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (Rd b m) κ (kcell (c, i))))
          ∗ (bigSep Finset.univ fun i => iprop(atPos ER (kcell (c, i)) 0 (∅ : Finset (Fin 4)) 0 ∗ reached ER (kcell (c, i)) 0)) ∗ minted c) : sProp 𝕄)
      ⊢ bigSep Finset.univ (share b m) := by
  rw [bigSep_sep', bigSep_sep', ← bigSep_univ_prod (fun x : Dev nD × CI => iprop(∃ κ : ℕ, cellInv ER (Rd b m) κ (kcell x))),
    bigSep_congr (s := Finset.univ) (fun (c : Dev nD) _ => bigSep_sep' Finset.univ (fun i : CI => (atPos ER (kcell (c, i)) 0 (∅ : Finset (Fin 4)) 0 : sProp 𝕄)) (fun i => reached ER (kcell (c, i)) 0)),
    bigSep_sep', ← bigSep_univ_prod (fun x : Dev nD × CI => (reached ER (kcell x) 0 : sProp 𝕄)), dealt b]
  iintro ⟨HI, ⟨Hat, #HR⟩, Htok⟩
  ihave HK := (BI.bigSep_exists_pi Finset.univ (fun (x : Dev nD × CI) (κ : ℕ) => (cellInv ER (Rd b m) κ (kcell x) : sProp 𝕄))) $$ HI
  icases HK with ⟨%K, #HI⟩
  iapply (beside (R := known b m K) (Φ := mine b) fun c _ => share_intro b m K c)
  isplitr
  · unfold known; isplitl; · iexact HI
    iexact HR
  · unfold mine
    rw [bigSep_sep']
    isplitl [Hat]; · iexact Hat
    iexact Htok

/-- All semaphores become shared, and every device gets its share. -/
theorem glob : (bigSep Finset.univ fun c => iprop(Pipeline.ownSems0 (Ix := Unit) (Name := ℕ) (U := UU) (Lvl := ℕ) (Val := Elt F) (τ := τ) ownSem c ∗ unscopedSems0 c ∗ lot b m c) : sProp 𝕄)
    ⊢ |={Set.univ}=> bigSep Finset.univ (share b m) :=
  ((bigSep_mono fun c _ => core_alloc b m c).trans (bigSep_fupd _ _)).trans (BI.fupd_mono (regroup b m))

/-! ## The credit -/

/-- Every device's due to its peer, at one device. -/
theorem sum_at (f : Dev nD → Dev nD) (e : Dev nD ≃ Dev nD) (hf : ∀ d, f d = e d) (i : CI) (n : ℕ) (c : Dev nD) :
    ∑ d : Dev nD, (tallyAt ((f d : Thread nD τ), csem i) () n : CellTallies nD τ sig Unit) ((c : Thread nD τ), csem i) () = n := by
  rw [Finset.sum_eq_single (e.symm c)]
  · rw [tallyAt_apply, if_pos ⟨by rw [hf, Equiv.apply_symm_apply], rfl⟩]
  · intro d _ hd
    rw [tallyAt_apply, if_neg]
    rintro ⟨h, -⟩
    have h : c = f d := congrArg (fun g : GSem nD τ sig => g.1.1) h
    exact hd (by rw [h, hf, Equiv.symm_apply_apply])
  · exact fun h => absurd (Finset.mem_univ _) h

/-- A due at another semaphore. -/
theorem sum_off (e : Dev nD → Dev nD) (i j : CI) (h : j ≠ i) (n : ℕ) (c : Dev nD) :
    ∑ d : Dev nD, (tallyAt ((e d : Thread nD τ), csem i) () n : CellTallies nD τ sig Unit) ((c : Thread nD τ), csem j) () = 0 :=
  Finset.sum_eq_zero fun d _ => by
    rw [tallyAt_apply, if_neg]
    rintro ⟨h', -⟩
    exact h (csem_inj _ _ (congrArg Prod.snd h'))

/-- The sum over the devices of two dues. -/
theorem sum_both (A B : Dev nD → CellTallies nD τ sig Unit) (g : GSem nD τ sig) :
    ∑ d : Dev nD, (A d + B d) g () = ∑ d : Dev nD, A d g () + ∑ d : Dev nD, B d g () := by
  rw [← Finset.sum_add_distrib]
  rfl

theorem owed_bar (c : Dev nD) (l : List Tr) : ∑ d : Dev nD, owed b d l ((c : Thread nD τ), csem .bar) () = 0 := by
  induction l with
  | nil => exact Finset.sum_eq_zero fun _ _ => rfl
  | cons t l ih =>
    show ∑ d : Dev nD, (owed b d l + tallyAt ((peer b d t : Thread nD τ), csem (.rcv t)) () NT) ((c : Thread nD τ), csem .bar) () = 0
    rw [sum_both, ih, sum_off _ _ _ (fun h => by cases h)]

theorem owed_rcv (c : Dev nD) (t : Tr) (l : List Tr) :
    ∑ d : Dev nD, owed b d l ((c : Thread nD τ), csem (.rcv t)) () = l.count t * NT := by
  induction l with
  | nil => exact (Finset.sum_eq_zero fun _ _ => rfl).trans (Nat.zero_mul NT).symm
  | cons t' l ih =>
    show ∑ d : Dev nD, (owed b d l + tallyAt ((peer b d t' : Thread nD τ), csem (.rcv t')) () NT) ((c : Thread nD τ), csem (.rcv t)) () = _
    rw [sum_both, ih, List.count_cons]
    by_cases h : t' = t
    · subst h
      rw [sum_at (fun d => peer b d t') (peerEquiv b t') (fun _ => rfl) (.rcv t') NT c, if_pos (beq_self_eq_true t'), Nat.succ_mul]
    · rw [sum_off _ _ _ (fun h' => h (by cases h'; rfl)), if_neg (fun h' => h (beq_iff_eq.mp h')), Nat.add_zero, Nat.add_zero]

theorem once : ∀ t : Tr, (owesAll steps).count t = 1 := by decide +kernel

theorem dues_bar (c : Dev nD) : ∑ d : Dev nD, dues b d ((c : Thread nD τ), csem .bar) () = 4 := by
  unfold dues duesZ duesX duesY
  simp only [sum_both]
  rw [owed_bar, sum_at (zOf b) (peerEquiv b (.z 0)) (fun _ => rfl) .bar 1 c, sum_at xDev (peerEquiv b (.xf 0)) (fun _ => rfl) .bar 1 c,
    sum_at yDev (peerEquiv b (.yf 0)) (fun _ => rfl) .bar 1 c]

theorem dues_rcv (c : Dev nD) (t : Tr) : ∑ d : Dev nD, dues b d ((c : Thread nD τ), csem (.rcv t)) () = NT := by
  unfold dues duesZ duesX duesY
  simp only [sum_both]
  rw [owed_rcv, once, sum_off _ _ _ (fun h => by cases h), sum_off _ _ _ (fun h => by cases h), sum_off _ _ _ (fun h => by cases h)]
  omega

/-- The credit at a semaphore is what is owed there. -/
theorem credit_of (c : Dev nD) (i : CI) (n : ℕ) (h : ∑ d : Dev nD, dues b d ((c : Thread nD τ), csem i) () = n) :
    tallyOn ((c : Thread nD τ), csem i) (launchCredit (Pipeline.owing (dues b)) 0 ((c : Thread nD τ), csem i))
      = (tallyAt ((c : Thread nD τ), csem i) () n : CellTallies nD τ sig Unit) := by
  unfold tallyAt
  refine congrArg _ (Finsupp.ext fun u => ?_)
  cases u
  rw [Pipeline.launchCredit_owing, Finsupp.single_eq_same, h]

theorem csem_injective : Function.Injective csem := fun i j h => csem_inj i j h

omit [FloatOps F] in
/-- The outer two of four. -/
theorem outer (A B C D : sProp 𝕄) : iprop(A ∗ B ∗ C ∗ D) ⊢ iprop(A ∗ D) := by
  iintro ⟨H₁, -, -, H₂⟩
  isplitl [H₁]; · iexact H₁
  iexact H₂

omit [FloatOps F] in
/-- A device's credit: four units at its barrier, and one transfer at each of its receiving semaphores. -/
theorem creds (c : Dev nD) : (Pipeline.launchCred (dues b) c : sProp 𝕄)
    ⊢ iprop(cred (tallyAt ((c : Thread nD τ), csem .bar) () 4) ∗ bigSepL trs fun t => cred (tallyAt ((c : Thread nD τ), csem (.rcv t)) () NT)) := by
  unfold Pipeline.launchCred
  refine (bigSep_subset (Finset.subset_univ (Finset.univ.map ⟨csem, csem_injective⟩))).trans ?_
  rw [bigSep_map, over_cells]
  dsimp only [Function.Embedding.coeFn_mk]
  rw [credit_of b c .bar 4 (dues_bar b c)]
  simp only [fun t => credit_of b c (.rcv t) NT (dues_rcv b c t)]
  exact outer _ _ _ _

end Cert.Exchange
-- ==== Proof.Launch.lean ====
module

public import proofs.«01_k».proof.Proof.Start
public import proofs.«01_k».proof.Proof.Gen.KernelIdeal.Points
public import Idealize.ShloMosaic.Lib.Pipeline.CollectiveSegs
public import Idealize.ShloMosaic.Lib.Quiescent

/-!
# The launch

All devices run their bodies, for a permutation that swaps the devices along z or keeps them: every
run ends, the output of each device is `outAt`, the inputs are as they were, and every semaphore is zero.
-/

@[expose] public section

noncomputable section

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

namespace Cert.Exchange

variable {F : FTy → Type} [FloatOps F]

local notation "𝕄" => MT nD τ sig Unit (Elt F) ℕ UU ℕ

variable (b : Bool) (m : (ℓ : Loc nD τ sig) → Buf (Elt F) ℓ) (ρ : Dev nD → PrngReg) (K : Dev nD × CI → ℕ)

/-! ## Each device's account -/

/-- Our block of `x`, as it was. -/
def xAll (c : Dev nD) : sProp 𝕄 := ((c : Thread nD τ).loc main_arg0) ↦{fullShare} m ((c : Thread nD τ).loc main_arg0)
/-- The buffer of rounded pieces, with any contents. -/
def zAll (c : Dev nD) : sProp 𝕄 := iprop(∃ f : Buf (Elt F) ((c : Thread nD τ).loc cc0_scratch0), ((c : Thread nD τ).loc cc0_scratch0) ↦{fullShare} f)
/-- The loading buffer, with any contents. -/
def stAll (c : Dev nD) : sProp 𝕄 := iprop(∃ f : Buf (Elt F) ((c : Thread nD τ).loc cc0_scratch1), ((c : Thread nD τ).loc cc0_scratch1) ↦{fullShare} f)

/-- What a device has before its body, besides its buffers. -/
def prepared (c : Dev nD) : sProp 𝕄 :=
  iprop(share b m c ∗ levAts L lv ∗ (cred (tallyAt ((c : Thread nD τ), csem .bar) () 4)
    ∗ bigSepL trs fun t => cred (tallyAt ((c : Thread nD τ), csem (.rcv t)) () NT)) ∗ xAll m c)

/-- What a device has before its body. -/
def Φ₀ (c : Dev nD) : sProp 𝕄 := iprop(prepared b m c ∗ zAll c ∗ stAll c)

/-- What a device has after its body. -/
def Φ₁ (c : Dev nD) : sProp 𝕄 :=
  iprop((semVal ((c : Thread nD τ), csem .bar) 0 ∗ xAll m c) ∗ (bigSepL own fun i => semVal ((c : Thread nD τ), csem i) 0) ∗ zAll c ∗ stAll c)

/-- The account of the launch: the permutation is staged in, the output is staged out. -/
def dats (_ : Fin 1) (c : Dev nD) : Dat τ (Elt F) Unit ℕ UU ℕ cfg0 c where
  A w := m ((cfg0.win w).arr.view.loc (c : Thread nD τ))
  after w _ := match w with
    | ⟨0, _⟩ => perm b
    | ⟨1, _⟩ => outAt b m c
  Φ t := match t with
    | ⟨0, _⟩ => Φ₀ b m c
    | ⟨_ + 1, _⟩ => Φ₁ m c
  q _ := fullShare
  owed t := match t with
    | ⟨0, _⟩ => dues b c
    | ⟨_ + 1, _⟩ => 0

/-! ## The body -/

theorem start_list (c : Dev nD) : bigSepL atStart (den b m c)
    = iprop((((((((((bigSepL (List.finRange 12) fun k => xRes m c k) ∗ bigSepL (List.finRange 12) fun k => stRes c k)
        ∗ bigSepL (List.finRange 12) fun k => zRes c k)
      ∗ bigSepL (List.finRange 12) fun k => atPos ER ((c : Thread nD τ), csem (.ld k)) 0 (∅ : Finset (Fin 4)) 0)
      ∗ bigSepL trs fun t => atPos ER ((c : Thread nD τ), csem (.snd t)) 0 (∅ : Finset (Fin 4)) 0)
      ∗ bigSepL trs fun t => atPos ER ((c : Thread nD τ), csem (.rcv t)) 0 (∅ : Finset (Fin 4)) 0)
      ∗ bigSepL (List.finRange 12) fun k => dutyTok ER ((c : Thread nD τ), csem (.ld k)) 0 (0 : Fin 4))
      ∗ bigSepL trs fun t => dutyTok ER ((c : Thread nD τ), csem (.snd t)) 0 (0 : Fin 4))
      ∗ bigSepL trs fun t => dutyTok ER ((peer b c t : Thread nD τ), csem (.rcv t)) 0 (0 : Fin 4))
      ∗ bigSepL trs fun t => cred (tallyAt ((c : Thread nD τ), csem (.rcv t)) () NT)) := by
  unfold atStart
  simp only [bigSepL_append, bigSepL_map]
  rfl

theorem end_list (c : Dev nD) : bigSepL atEnd (den b m c)
    = iprop(((((((bigSepL (List.finRange 12) fun k => xRes m c k) ∗ bigSepL (List.finRange 12) fun k => stRes c k)
        ∗ bigSepL (List.finRange 12) fun k => zRes c k)
      ∗ bigSepL (List.finRange 12) fun k => semVal ((c : Thread nD τ), csem (.ld k)) 0)
      ∗ bigSepL trs fun t => semVal ((c : Thread nD τ), csem (.snd t)) 0)
      ∗ bigSepL trs fun t => semVal ((c : Thread nD τ), csem (.rcv t)) 0)
      ∗ bigSepL trs fun t => gotRes b m c t fullShare) := by
  unfold atEnd
  simp only [bigSepL_append, bigSepL_map]
  rfl

/-- The records and the levels are what every device knows. -/
theorem recs_intro : iprop(known b m K ∗ levAts L lv) ⊢ recs b m K := by
  unfold known recs
  iintro ⟨⟨H₁, H₂⟩, H₃⟩
  isplitl [H₁]; · iexact H₁
  isplitl [H₂] <;> iassumption

/-- What a device has opens its body; the part of `x` that it does not load is left over. -/
theorem open_body (c : Dev nD) (f : S1x2048x1024.Idx → Elt F .bf16) :
    iprop(Φ₀ b m c ∗ (∃ W, owes (c : Thread nD τ) (dues b c) W) ∗ piRes b c
        ∗ (((c : Thread nD τ).loc cc0_stg1_0) ↦{fullShare} (f : Buf (Elt F) ((c : Thread nD τ).loc cc0_stg1_0))))
      ⊢ iprop(∃ K, opening b m K c ∗ xRest m c) := by
  unfold Φ₀ prepared share mine used xAll zAll stAll opening
  rw [over_cells, start_list]
  iintro ⟨⟨⟨⟨%K, #HK, ⟨Ha, Hal, Has, Har⟩, ⟨Ht₀, Htl, Hts, Htr⟩, Ht₁, Ht₂, Ht₃⟩, #HL, ⟨Hc, Hcr⟩, Hx⟩, Hz, Hst⟩, HO, Hp, Ho⟩
  iexists K
  ihave Hx := ((x_cut m c).1) $$ Hx
  icases Hx with ⟨Hx, Hxr⟩
  ihave Hz := ((z_cut c).1) $$ Hz
  ihave Hst := ((st_cut c).1) $$ Hst
  ihave Ho := (out_room c f) $$ Ho
  isplitr [Hxr]
  · isplitr
    · iapply (recs_intro b m K)
      isplitl; · iexact HK
      iexact HL
    isplitl [HO]; · iexact HO
    isplitl [Ha]; · iexact Ha
    isplitl [Hc]; · iexact Hc
    isplitl [Ht₀]; · iexact Ht₀
    isplitl [Ht₁]; · iexact Ht₁
    isplitl [Ht₂]; · iexact Ht₂
    isplitl [Ht₃]; · iexact Ht₃
    isplitl [Ho]; · iexact Ho
    isplitr [Hp]
    · isplitr [Hcr]
      · isplitr [Htr]
        · isplitr [Hts]
          · isplitr [Htl]
            · isplitr [Har]
              · isplitr [Has]
                · isplitr [Hal]
                  · isplitr [Hz]
                    · isplitl [Hx]; · iexact Hx
                      iexact Hst
                    iexact Hz
                  iexact Hal
                iexact Has
              iexact Har
            iexact Htl
          iexact Hts
        iexact Htr
      iexact Hcr
    iexact Hp
  iexact Hxr

/-- What the body ends with, and the rest of `x`, is what the device has after it. -/
theorem close_body (c : Dev nD) : iprop(ending b m c ∗ xRest m c)
    ⊢ iprop(Φ₁ m c ∗ (∃ W, owes (c : Thread nD τ) (0 : CellTallies nD τ sig Unit) W) ∗ piRes b c
        ∗ (((c : Thread nD τ).loc cc0_stg1_0) ↦{fullShare} (outAt b m c : Buf (Elt F) ((c : Thread nD τ).loc cc0_stg1_0)))) := by
  unfold ending Φ₁ owesL xAll zAll stAll
  rw [over_own, end_list, ← out_whole b m c]
  iintro ⟨⟨HO, Hb, ⟨⟨⟨⟨⟨⟨Hx, Hst⟩, Hz⟩, Hl⟩, Hs⟩, Hr⟩, Hg⟩, Hp⟩, Hxr⟩
  ihave Hx := ((x_cut m c).2) $$ [Hx Hxr]
  · isplitl [Hx] <;> iassumption
  ihave Hz := ((z_cut c).2) $$ Hz
  ihave Hst := ((st_cut c).2) $$ Hst
  isplitr [HO Hp Hg]
  · isplitl [Hb Hx]
    · isplitl [Hb] <;> iassumption
    isplitl [Hl Hs Hr]
    · isplitl [Hl]; · iexact Hl
      isplitl [Hs] <;> iassumption
    isplitl [Hz] <;> iassumption
  isplitl [HO]; · iexact HO
  isplitl [Hp] <;> iassumption

omit [FloatOps F] in
theorem whole_owns (c : Dev nD) (r : Ref sig .tc) (X : r.ty.Contents (Elt F)) :
    (owns (Ix := Unit) (Name := ℕ) (U := UU) (Lvl := ℕ) (c : Thread nD τ) (Memref.whole r) fullShare X : sProp 𝕄)
      = iprop(∃ f : Buf (Elt F) ((c : Thread nD τ).loc r), ⌜f = X⌝ ∗ (((c : Thread nD τ).loc r) ↦{fullShare} f)) := by
  unfold owns; simp only [Memref.view_whole, View.read_whole, View.set_whole]

/-- A staging buffer holding `X`. -/
abbrev stg (c : Dev nD) (r : Ref sig .tc) (X : r.ty.Contents (Elt F)) : sProp 𝕄 :=
  iprop(∃ f : Buf (Elt F) ((c : Thread nD τ).loc r), ⌜f = X⌝ ∗ (((c : Thread nD τ).loc r) ↦{fullShare} f))

omit [FloatOps F] in
/-- The block that is staged in is the whole array. -/
theorem read_in (f : Buf (Elt F) (((0 : Dev nD) : Thread nD τ).loc main_arg1)) : (win0_0.blk t0_0).view.read (Elt F) f = f :=
  funext fun i => congrArg f (funext fun a => Fin.ext (by
    show 0 * _ + 1 * (i a).val = (i a).val
    omega))

omit [FloatOps F] in
/-- The block that is staged out is the whole array. -/
theorem read_out (f : Buf (Elt F) (((0 : Dev nD) : Thread nD τ).loc main_v1)) : (win0_1.blk t0_0).view.read (Elt F) f = f :=
  funext fun i => congrArg f (funext fun a => Fin.ext (by
    show 0 * _ + 1 * (i a).val = (i a).val
    omega))

/-- What the body starts from, as the launch states it. -/
def bodyPre (c : Dev nD) : sProp 𝕄 :=
  iprop(Φ₀ b m c ∗ (dats b m 0 c).owesAt () t0_0.castSucc
    ∗ (∃ d, stg c cc0_stg0_0 ((dats b m 0 c).before (0 : Fin 2) t0_0 d))
    ∗ (∃ d, stg c cc0_stg1_0 ((dats b m 0 c).before (1 : Fin 2) t0_0 d)))

/-- What the body ends with, as the launch states it. -/
def bodyPost (c : Dev nD) : sProp 𝕄 :=
  iprop(Φ₁ m c ∗ (dats b m 0 c).owesAt () t0_0.succ ∗ stg c cc0_stg0_0 (perm b) ∗ stg c cc0_stg1_0 (outAt b m c))

/-- All devices hold the permutation. -/
abbrev Permuted : Prop := ∀ c : Dev nD, m ((c : Thread nD τ).loc main_arg1) = perm (F := F) b

variable {b m} in
theorem staged (hpi : Permuted b m) (c : Dev nD) (d) : (dats b m 0 c).before (0 : Fin 2) t0_0 d = perm (F := F) b := by
  unfold Dat.before
  rw [if_pos (fetch0_0 t0_0)]
  exact (read_in (m ((c : Thread nD τ).loc main_arg1))).trans (hpi c)

theorem body_launch (hpi : Permuted b m) (c : Dev nD) :
    bodyPre b m c ⊢ wpc c prog (fun _ => bodyPost b m c) := by
  unfold bodyPre Dat.owesAt Pipeline.owesWithin
  simp only [staged hpi c]
  rw [show (dats b m 0 c).owed t0_0.castSucc = dues b c from rfl]
  iintro ⟨HΦ, ⟨%W, -, HO⟩, ⟨%d₀, %f₀, %h₀, Hp⟩, ⟨%d₁, %f₁, -, Ho⟩⟩
  subst h₀
  ihave H := (open_body b m c f₁) $$ [HΦ HO Hp Ho]
  · isplitl [HΦ]; · iexact HΦ
    isplitl [HO]; · (iexists W; iexact HO)
    isplitl [Hp]; · (unfold piRes; iexact Hp)
    iexact Ho
  icases H with ⟨%K, H, Hxr⟩
  iapply (body_ok b m K c fun _ => bodyPost b m c) $$ H
  iintro H
  ihave H := (close_body b m c) $$ [H Hxr]
  · isplitl [H] <;> iassumption
  icases H with ⟨HΦ, ⟨%W', HO⟩, Hp, Ho⟩
  unfold bodyPost Dat.owesAt Pipeline.owesWithin
  rw [show (dats b m 0 c).owed t0_0.succ = 0 from rfl]
  isplitl [HΦ]; · iexact HΦ
  isplitl [HO]
  · iexists W'
    isplitr; · (ipureintro; exact fun _ _ => Or.inl trivial)
    iexact HO
  isplitl [Hp]
  · iexists _
    isplitr; · (ipureintro; rfl)
    unfold piRes; iexact Hp
  iexists _
  isplitr; · (ipureintro; rfl)
  iexact Ho

set_option maxRecDepth 100000 in
/-- The body does what the launch asks of it. -/
theorem body_obligation (hpi : Permuted b m) (c : Dev nD) : BodyObligation (dats (F := F) b m 0 c) (defs₀ (F := F)) 𝒱₀ () Set.univ := fun t => by
  rw [fin_N0 t]
  rw [bigSep_W0, bigSep_W0]
  simp only [whole_owns]
  show bodyPre b m c ⊢ wp frame (wpE (defs₀ (F := F)) 𝒱₀ (c : Thread nD τ) none) Set.univ (bodyAt0 t0_0) (fun _ => bodyPost b m c)
  rw [body_eq t0_0]
  exact body_launch b m hpi c

/-! ## The launch's conditions -/

theorem share_full (c : Dev nD) (w : Fin cfg0.W) : (dats b m 0 c).share w = fullShare := by unfold Dat.share; split <;> rfl

/-- A staging semaphore is none of the body's. -/
theorem stage_lv (c : Dev nD) (sm : SemLoc sig) (h : ∀ i, csem i ≠ sm) : lv ((c : Thread nD τ), sm) () = 0 := by
  show (match cellIdx sm with | some i => i.lvl | none => 0) = 0
  rw [cellIdx_none sm h]

/-- A device owes at barriers and at receiving semaphores. -/
theorem dues_lvl (c : Dev nD) (g : GSem nD τ sig) (u : Unit) (h : 0 < dues b c g u) :
    ∃ (d : Dev nD) (i : CI), g = ((d : Thread nD τ), csem i) ∧ 0 < i.lvl := by
  have hr : ∀ t, 0 < (CI.rcv t).lvl := fun t => by cases t <;> exact Nat.succ_pos _
  rcases pos_add h with h | h
  · rcases pos_add h with h | h
    · rcases pos_add h with h | h
      · rcases pos_add h with h | h
        · obtain ⟨t, -, e⟩ := owed_pos b c _ h
          exact ⟨_, _, e, hr t⟩
        · exact ⟨_, .bar, pos_tallyAt h, Nat.one_pos⟩
      · exact ⟨_, .bar, pos_tallyAt h, Nat.one_pos⟩
    · exact ⟨_, .bar, pos_tallyAt h, Nat.one_pos⟩
  · exact ⟨_, .bar, pos_tallyAt h, Nat.one_pos⟩

theorem waits (c : Dev nD) : (levAts L lv : sProp 𝕄) ⊢ Pipeline.cellsWaits cfgs (dats b m) () 0 c :=
  Pipeline.cellsWaits_intro cfgs (dats b m) () 0 c fun w s t =>
    mayWait_of c _ 0 (stage_lv c _ (by fin_cases w <;> fin_cases s <;> decide +kernel)) _ (by
      rcases t with ⟨_ | _, ht⟩
      · exact dues_lvl b c
      · exact fun _ _ h => absurd h (Nat.lt_irrefl 0))

theorem prepare (c : Dev nD) :
    iprop(Pipeline.unscopedRestP Pipeline.Prefetch.none cfg0.spec c (fun r => m ((c : Thread nD τ).loc r)) ∗ levAts L lv
        ∗ Pipeline.launchCred (dues b) c ∗ prngReg c (ρ c) ∗ share b m c)
      ⊢ |={Set.univ}=> iprop(prepared b m c ∗ emp) := by
  rw [Pipeline.unscopedRestP_none, unscopedRest0_eq]
  iintro ⟨Hx, HL, Hc, -, HG⟩
  ihave Hc := (creds b c) $$ Hc
  imodintro
  unfold prepared xAll
  isplitl
  · isplitl [HG]; · iexact HG
    isplitl [HL]; · iexact HL
    isplitl [Hc]; · iexact Hc
    iexact Hx
  · iempintro

theorem enter (c : Dev nD) :
    iprop(prepared b m c ∗ Pipeline.prefHeld Pipeline.Prefetch.none c (fun _ => fullShare.right) (fun k => k.elim0) ∗ Pipeline.scopedRest cfg0.spec c)
      ⊢ (dats b m 0 c).Φ 0 := by
  rw [show (dats b m 0 c).Φ 0 = Φ₀ b m c from rfl, scopedRest0_eq]
  unfold Φ₀ zAll stAll
  iintro ⟨H, -, Hz, Hs⟩
  isplitl [H]; · iexact H
  isplitl [Hz] <;> iassumption

/-- What a device keeps to the end: its barrier at zero and its block of `x` as it was. -/
def kept (c : Dev nD) : sProp 𝕄 := iprop(unscopedSems0 c ∗ xAll m c)

theorem leave (c : Dev nD) :
    (dats b m 0 c).Φ (Fin.last cfg0.N) ⊢ iprop(kept m c ∗ Pipeline.ownSems0 ownSem c ∗ Pipeline.scopedRest cfg0.spec c) := by
  unfold kept
  rw [show (dats b m 0 c).Φ (Fin.last cfg0.N) = Φ₁ m c from rfl, scopedRest0_eq, own_sems, bar_sem]
  unfold Φ₁ zAll stAll
  exact Entails.refl _

/-- What the state is at the end, besides the staged arrays. -/
def Kept (c : Dev nD) (s : MemSt nD τ sig (Elt F)) : Prop :=
  s.mem ((c : Thread nD τ).loc main_arg0) = m ((c : Thread nD τ).loc main_arg0)
    ∧ ∀ sm : SemLoc sig, sm.isScoped .tc = false → s.sem ((c.tc : Thread nD τ), sm) = 0

theorem kept_read (c : Dev nD) (s : Phys nD τ sig (Elt F)) :
    iprop(kept m c ∗ emp ∗ SI s) ⊢ |={Set.univ}=> iprop(⌜Kept m c s.mem⌝ ∗ SI s) := by
  unfold kept xAll
  iintro ⟨⟨Hu, Hx⟩, -, HS⟩
  icombine HS Hx gives %h
  imod (Pipeline.unscopedSems0_read (X := unscopedSems0 c) (c := c) fupd_intro s) $$ [Hu HS] with ⟨%hu, HS⟩
  · isplitl [Hu] <;> iassumption
  imodintro
  isplitr
  · ipureintro
    exact ⟨Buf.eq_of_forall_mem_univ h, hu⟩
  iexact HS

/-! ## The run -/

/-- Where the launch's run ends. -/
def Ends (r : PUnit × MemSt nD τ sig (Elt F)) : Prop :=
  (∀ c : Dev nD, r.2.mem ((c : Thread nD τ).loc main_v1) = outAt b m c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

/-- The output array at the end. -/
theorem final_out (c : Dev nD) : (dats b m 0 c).arrAt (1 : Fin 2) cfg0.N = outAt b m c := by
  rw [show cfg0.N = t0_0.val + 1 from rfl, (dats b m 0 c).arrAt_succ (1 : Fin 2) t0_0, if_pos (flush0_1 t0_0)]
  exact (read_out _).symm.trans (View.read_write_univ _ _)

set_option maxRecDepth 100000 in
/-- Every run from a permutation that swaps the devices along z, or keeps them, ends so. -/
theorem run_main (hpi : Permuted b m) : θ_run defs (onTc (τ := τ) (main (F := F))) ⟨m, fun _ => 0, ρ⟩ (Ends b m) :=
  Pipeline.θ_run_region_owing_glob_pf (fun p => (cfgs p).toPCfg) (fun p => (cfgs p).toPCfg_adm) (dats b m) () cellOf_inj (0 : Fin 1)
    winFacts0.to₀ ownSemFacts (Pipeline.PreFacts.none _) EP defs₀ 𝒱₀ m ρ main
    (hmain := fun _ => rfl)
    (hbody := body_obligation b m hpi) (hne := block_pos0) (harr := arr_whole0) (hstage := stage_whole0) (hshare := share_full b m)
    (hdistinct := winFacts0.arr_inj)
    (O₀ := dues b) (howed₀ := fun _ => rfl) (howedN := fun _ => rfl)
    (L := L) (lv := lv) (hL := L_of_ne) (hwaits := waits b m)
    (G := lot b m) (G' := share b m) (u₀ := ghost₀)
    (hu₀ := by
      unfold ghost₀
      iintro Hu
      ihave H := (ownU_pair _ _) $$ Hu
      icases H with ⟨HP, HX⟩
      imod (fund b m) $$ HX with HG
      imodintro
      isplitl [HP] <;> iassumption)
    (hglob := glob b m)
    (hA := fun _ _ => rfl) (hpf := fun _ k => k.elim0)
    (X := prepared b m) (Y := kept m) (Z := fun _ => iprop(emp))
    (hX := prepare b m ρ) (hin := enter b m) (hout := leave b m)
    (QY := Kept m) (hY := kept_read m)
    (hQ := fun _ h hs => ⟨fun c => ⟨((h c).1 (1 : Fin 2)).trans (final_out b m c), (h c).2.2.1,
      ((h c).1 (0 : Fin 2)).trans ((dats b m 0 c).arrAt_in (0 : Fin 2) rfl _)⟩, sem_eq_zero hs fun c => (h c).2.2.2⟩)

end Cert.Exchange
-- ==== Proof.Value.lean ====
module

public import proofs.«01_k».proof.Proof.Launch
public import proofs.«01_k».proof.Proof.Gen.ReferenceIdeal.Run
public import proofs.«01_k».proof.Proof.Gen.Pre_swaps_Kernel
public import proofs.«01_k».proof.Proof.Gen.Pre_keeps_Kernel
public import Idealize.ShloMosaic.Lib.Layout

/-!
# What the kernel and the reference compute

The two preconditions name the two permutations of the axis z. The reference sorts the permutation to
find which block of `x` each block of the result is; the kernel's devices end with these very blocks.
-/

@[expose] public section

noncomputable section

open Idealize.ShloMosaic
open Idealize.ShloMosaic.TcCoe
open Idealize.SL.Sem
open Cert.KernelIdeal Cert.KernelIdeal.Gen

namespace Cert.Exchange

variable {F : FTy → Type} [FloatOps F]

/-! ## The preconditions -/

/-- Both of two conditions hold when their conjunction does. -/
theorem both_of_and {u v : BitVec 1} (h : u &&& v = 1#1) : u = 1#1 ∧ v = 1#1 := by
  revert u v; decide

/-- Two words that compare equal are equal. -/
theorem eq_of_cmp {u v : BitVec 32} (h : IntOp.cmpi .eq u v = 1#1) : u = v := by
  by_contra hne
  have : IntOp.cmpi .eq u v = 0#1 := by
    show BitVec.ofBool (u == v) = 0#1
    rw [beq_eq_false_iff_ne.mpr hne]; rfl
  rw [this] at h
  exact absurd h (by decide)

/-- A place among two. -/
def nth (z : Fin 2) : S2.Idx := fun a => match a with | ⟨0, _⟩ => z

/-- An array of two words is told by its words. -/
theorem two_words {p : S2.Idx → BitVec 32} {q : S2.Idx → BitVec 32} (h0 : p (nth 0) = q (nth 0)) (h1 : p (nth 1) = q (nth 1)) : p = q := by
  funext i
  have hi : i = nth 0 ∨ i = nth 1 := by
    have h2 : (i 0).val < 2 := (i 0).isLt
    rcases (show (i 0).val = 0 ∨ (i 0).val = 1 by omega) with h | h
    · exact Or.inl (funext fun a => by obtain rfl : a = 0 := Subsingleton.elim _ _; exact Fin.ext h)
    · exact Or.inr (funext fun a => by obtain rfl : a = 0 := Subsingleton.elim _ _; exact Fin.ext h)
  rcases hi with rfl | rfl
  · exact h0
  · exact h1

/-- The word at a place, as the preconditions read it. -/
theorem word_read (p : IVec S2 32) (z : Fin 2) (off : Fin 1 → ℕ) (ho : off 0 = z.val) (hs : S2.Slices off Cert.Pre_swaps_Kernel.S1)
    (hc : Cert.Pre_swaps_Kernel.S1.ShapeCasts Cert.Pre_swaps_Kernel.S_) (j : Cert.Pre_swaps_Kernel.S_.Idx) :
    shapeCast Cert.Pre_swaps_Kernel.S_ (extractStridedSlice Cert.Pre_swaps_Kernel.S1 off p hs) hc j = p (nth z) := by
  refine congrArg p (funext fun a => ?_)
  obtain rfl : a = 0 := Subsingleton.elim _ _
  have hj : (Shape.reshapeEquiv hc j 0).val < 1 := (Shape.reshapeEquiv hc j 0).isLt
  refine Fin.ext ?_
  show off 0 + (Shape.reshapeEquiv hc j 0).val = z.val
  omega

/-- The first precondition says that the permutation swaps. -/
theorem perm_of_swaps (x : FVec F S1x2048x1024 .f32) (p : IVec S2 32) (h : Cert.Pre_swaps_Kernel.fn (F := F) x p = fun _ => 1#1) :
    p = perm (F := F) true := by
  obtain ⟨h0, h1⟩ := both_of_and (congrFun h (fun a => a.elim0))
  have e0 := eq_of_cmp h0
  have e1 := eq_of_cmp h1
  exact two_words ((word_read p 0 ![0] rfl _ _ _).symm.trans e0) ((word_read p 1 ![1] rfl _ _ _).symm.trans e1)

/-- The second precondition says that the permutation keeps. -/
theorem perm_of_keeps (x : FVec F S1x2048x1024 .f32) (p : IVec S2 32) (h : Cert.Pre_keeps_Kernel.fn (F := F) x p = fun _ => 1#1) :
    p = perm (F := F) false := by
  obtain ⟨h0, h1⟩ := both_of_and (congrFun h (fun a => a.elim0))
  have e0 := eq_of_cmp h0
  have e1 := eq_of_cmp h1
  exact two_words ((word_read p 0 ![0] rfl _ _ _).symm.trans e0) ((word_read p 1 ![1] rfl _ _ _).symm.trans e1)

/-! ## The reference -/

/-- The reference's order: where each block of the result comes from. -/
def order (p : IVec S2 32) : IVec S2 32 :=
  (Host.sort2 S2 0 Cert.ReferenceIdeal.comparator_i32_i32_d0 p (iotaInDim S2 32 0)).2

/-- The same as the gather takes it, a negative entry counted from the end. -/
def starts (p : IVec S2 32) : IVec Cert.ReferenceIdeal.S2x1 32 :=
  broadcastInDim Cert.ReferenceIdeal.S2x1 ![0] Cert.ReferenceIdeal.Gen.bcast_S2_S2x1_0
    (select (cmpi .slt (order p) (broadcastInDim S2 ![] Cert.ReferenceIdeal.Gen.bcast_S_S2 (constantI Cert.ReferenceIdeal.S_ 32 0#32)))
      (addi (order p) (broadcastInDim S2 ![] Cert.ReferenceIdeal.Gen.bcast_S_S2 (constantI Cert.ReferenceIdeal.S_ 32 2#32))) (order p))

/-- The reference's result. -/
def refOut (x : FVec F Cert.ReferenceIdeal.S2x2048x1024 .f32) (p : IVec S2 32) : FVec F Cert.ReferenceIdeal.S2x2048x1024 .bf16 :=
  truncf .bf16 (Host.gather Cert.ReferenceIdeal.gather_S2x2048x1024_S2x1_S2x2048x1024_12_0_n_n_0_1_120481024 x (starts p)) Cert.ReferenceIdeal.Gen.bitsLt_bf16_f32

/-- Where in the starts a row of the result looks. -/
def startAt (z : Fin 2) : Cert.ReferenceIdeal.S2x1.Idx := fun a => match a with | ⟨0, _⟩ => z | ⟨1, _⟩ => (0 : Fin 1)

/-- Of either permutation, the starts are the permutation itself: each is its own inverse. -/
theorem starts_perm : ∀ (b : Bool) (z : Fin 2), starts (fun i => permAt b (i 0).val) (startAt z) = permAt b z.val := by
  decide +kernel

/-- The row of `x` that a row of the result is. -/
def rowFrom (b : Bool) (z : Fin 2) : Fin 2 := if b then ⟨1 - z.val, by omega⟩ else z

theorem clamped : ∀ (b : Bool) (z : Fin 2), min (permAt b z.val).toInt.toNat 1 = (rowFrom b z).val := by
  decide +kernel

/-- The element of `x` that an element of the result is. -/
def elemFrom (b : Bool) (y : Cert.ReferenceIdeal.S2x2048x1024.Idx) : Cert.ReferenceIdeal.S2x2048x1024.Idx :=
  fun a => match a with | ⟨0, _⟩ => rowFrom b (y 0) | ⟨1, _⟩ => y 1 | ⟨2, _⟩ => y 2

/-- The gather takes a row of `x` for each row of the result: the one the starts tell, brought into range. -/
theorem gather_row {α : Type} (x : Cert.ReferenceIdeal.S2x2048x1024.Idx → α) (k : IVec Cert.ReferenceIdeal.S2x1 32)
    (y w : Cert.ReferenceIdeal.S2x2048x1024.Idx) (h0 : (w 0).val = min (k (startAt (y 0))).toInt.toNat 1) (h1 : w 1 = y 1) (h2 : w 2 = y 2) :
    Host.gather Cert.ReferenceIdeal.gather_S2x2048x1024_S2x1_S2x2048x1024_12_0_n_n_0_1_120481024 x k y = x w := by
  refine congrArg x (funext fun a => Fin.ext ?_)
  match a with
  | ⟨0, _⟩ =>
    refine Eq.trans ?_ h0.symm
    refine congrArg (fun e => min (k e).toInt.toNat 1) (funext fun e => Fin.ext ?_)
    match e with
    | ⟨0, _⟩ => rfl
    | ⟨1, _⟩ => rfl
  | ⟨1, _⟩ => exact (Nat.zero_add _).trans (congrArg Fin.val h1.symm)
  | ⟨2, _⟩ => exact (Nat.zero_add _).trans (congrArg Fin.val h2.symm)

/-- The gather reads that element. -/
theorem gather_elem (b : Bool) (x : FVec F Cert.ReferenceIdeal.S2x2048x1024 .f32) (y : Cert.ReferenceIdeal.S2x2048x1024.Idx) :
    Host.gather Cert.ReferenceIdeal.gather_S2x2048x1024_S2x1_S2x2048x1024_12_0_n_n_0_1_120481024 x (starts (fun i => permAt b (i 0).val)) y
      = x (elemFrom b y) :=
  gather_row x _ y (elemFrom b y) ((clamped b (y 0)).symm.trans (congrArg (fun v : BitVec 32 => min v.toInt.toNat 1) (starts_perm b (y 0)).symm)) rfl rfl

/-- So is the reference's result, rounded. -/
theorem refOut_elem (b : Bool) (x : FVec F Cert.ReferenceIdeal.S2x2048x1024 .f32) (y : Cert.ReferenceIdeal.S2x2048x1024.Idx) :
    refOut x (perm (F := F) b) y = FloatOps.truncf .bf16 Cert.ReferenceIdeal.Gen.bitsLt_bf16_f32 (x (elemFrom b y)) :=
  congrArg (fun v => FloatOps.truncf .bf16 Cert.ReferenceIdeal.Gen.bitsLt_bf16_f32 v) (gather_elem b x y)

/-! ## The kernel -/

/-- Device `c`'s part of a whole array. -/
abbrev part {α : Type} (c : Dev nD) (v : Cert.ReferenceIdeal.S2x2048x1024.Idx → α) : S1x2048x1024.Idx → α :=
  Layout.blockN ⟨3, ![1, 2048, 1024]⟩ ⟨3, ![2, 2048, 1024]⟩ (Layout.meshBlock [2, 2, 2] ![[2], [], []] c) v

/-- The element of the whole array that an element of a device's part is. -/
def elemOf (c : Dev nD) (i : S1x2048x1024.Idx) : Cert.ReferenceIdeal.S2x2048x1024.Idx :=
  fun a => match a with | ⟨0, _⟩ => (⟨c.val % 2, Nat.mod_lt _ (by decide)⟩ : Fin 2) | ⟨1, _⟩ => i 1 | ⟨2, _⟩ => i 2

theorem part_elem {α : Type} (c : Dev nD) (v : Cert.ReferenceIdeal.S2x2048x1024.Idx → α) (i : S1x2048x1024.Idx) : part c v i = v (elemOf c i) := by
  refine congrArg v (funext fun a => Fin.ext ?_)
  match a with
  | ⟨0, _⟩ =>
    have h0 : (i 0).val = 0 := by have h : (i 0).val < 1 := (i 0).isLt; omega
    have hz : ∀ c : Dev nD, (Layout.meshBlock [2, 2, 2] ![[2], [], []] c (by decide) 0).val = c.val % 2 := by decide +kernel
    show (Layout.meshBlock [2, 2, 2] ![[2], [], []] c (by decide) 0).val * 1 + (i 0).val = c.val % 2
    rw [hz, h0]; omega
  | ⟨1, _⟩ =>
    show 0 * 2048 + (i 1).val = (i 1).val
    omega
  | ⟨2, _⟩ =>
    show 0 * 1024 + (i 2).val = (i 2).val
    omega

/-- A device's peer along z is at the place the permutation tells. -/
theorem zOf_mod : ∀ (b : Bool) (c : Dev nD), (zOf b c).val % 2 = (rowFrom b ⟨c.val % 2, Nat.mod_lt _ (by decide)⟩).val := by
  decide +kernel

/-- When every device's `x` is its part of an array, its output is its part of the reference's result. -/
theorem outAt_part (b : Bool) (m : (ℓ : Loc nD τ sig) → Buf (Elt F) ℓ) (x : FVec F Cert.ReferenceIdeal.S2x2048x1024 .f32)
    (hx : ∀ c : Dev nD, m ((c : Thread nD τ).loc main_arg0) = part c x) (c : Dev nD) :
    outAt b m c = part c (refOut x (perm (F := F) b)) := by
  funext i
  rw [part_elem, refOut_elem]
  refine congrArg (fun v => FloatOps.truncf .bf16 Cert.ReferenceIdeal.Gen.bitsLt_bf16_f32 v) ?_
  refine (congrFun (hx (org b c (trOf c (rowOf i)))) i).trans ((part_elem _ x i).trans (congrArg x (funext fun a => Fin.ext ?_)))
  match a with
  | ⟨0, _⟩ => exact (org_mod b c _).trans (zOf_mod b c)
  | ⟨1, _⟩ => rfl
  | ⟨2, _⟩ => rfl

/-- A run of the reference ends with its result, its arguments as they were and every semaphore zero. -/
theorem run_ref (m : (ℓ : Loc Cert.ReferenceIdeal.nD Cert.ReferenceIdeal.τ Cert.ReferenceIdeal.sig) → Buf (Elt F) ℓ) (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r =>
      (∀ c : Dev Cert.ReferenceIdeal.nD,
        r.2.mem ((c : Thread Cert.ReferenceIdeal.nD Cert.ReferenceIdeal.τ).loc Cert.ReferenceIdeal.main_v8)
            = refOut (m ((c : Thread Cert.ReferenceIdeal.nD Cert.ReferenceIdeal.τ).loc Cert.ReferenceIdeal.main_arg0)) (m ((c : Thread Cert.ReferenceIdeal.nD Cert.ReferenceIdeal.τ).loc Cert.ReferenceIdeal.main_arg1))
        ∧ r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1))
      ∧ r.2.sem = fun _ => 0 :=
  (θ_run Cert.ReferenceIdeal.defs _ _).mono (fun r h => ⟨h, sem_eq_zero_of_no_sems (by decide) r.2⟩) (Cert.ReferenceIdeal.Value.run m ρ)

end Cert.Exchange

end
-- ==== Proof.Same.lean ====
module

public import proofs.«01_k».proof.Proof.Gen.Kernel
public import proofs.«01_k».proof.Proof.Gen.KernelIdeal

/-!
# The two kernels are one text

The kernel and its idealization are the same program, over any float values: what a run of the one
reaches, a run of the other does.
-/

@[expose] public section

noncomputable section

open Idealize.ShloMosaic Idealize.ShloMosaic.TcCoe Idealize.SL.Sem

namespace Cert.Exchange

variable {F : FTy → Type} [FloatOps F]

set_option maxRecDepth 100000 in
set_option maxHeartbeats 4000000 in
/-- The tables of the bodies. -/
theorem same_table : Cert.Kernel.defs₀ (F := F) = Cert.KernelIdeal.defs₀ (F := F) := by
  funext p l a
  match p with
  | .tc =>
    match l, a with
    | ⟨0, _⟩, (t, s) => rfl
  | .scScalar _ => rfl
  | .scVector _ _ => rfl

/-- The tables with the pipelines in them. -/
theorem same_defs : Cert.Kernel.defs (F := F) = Cert.KernelIdeal.defs (F := F) :=
  congrArg (Pipeline.defs (Cert.KernelIdeal.pcfgs (F := F))) same_table

/-- A run of the idealized kernel is one of the kernel. -/
theorem run_same (m : (ℓ : Loc Cert.KernelIdeal.nD Cert.KernelIdeal.τ Cert.KernelIdeal.sig) → Buf (Elt F) ℓ) (g : Dev Cert.KernelIdeal.nD → PrngReg)
    {Q : PUnit.{1} × MemSt Cert.KernelIdeal.nD Cert.KernelIdeal.τ Cert.KernelIdeal.sig (Elt F) → Prop}
    (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q :=
  (congrArg (fun D => θ_run D (onTc (τ := Cert.KernelIdeal.τ) (Cert.KernelIdeal.main (F := F))) ⟨m, fun _ => 0, g⟩ Q) same_defs).mpr h

end Cert.Exchange

end
-- ==== Proof.lean ====
module

public import proofs.«01_k».proof.Defs
public import proofs.«01_k».proof.Proof.Value
public import proofs.«01_k».proof.Proof.Same
public import proofs.«01_k».proof.Proof.Gen.Pre_swaps_ReferenceIdeal
public import proofs.«01_k».proof.Proof.Gen.Pre_keeps_ReferenceIdeal
public import proofs.«01_k».proof.Proof.Gen.ReferenceIdeal.Run

/-!
# The claims

The kernel runs the same for either permutation, with the rounding of the machine's floats or with that
of the extended reals: `run_main` says so once for all. Each claim reads what it wants off that.
-/

@[expose] public section

noncomputable section

namespace Cert.Proof

open Idealize.ShloMosaic Idealize.ShloMosaic.TcCoe Idealize.SL.Sem Cert.Exchange

/-! ## The frames -/

/-- The printed kernel, for either permutation. -/
theorem kernel_frame (b : Bool) (m : (ℓ : Loc Cert.Kernel.nD Cert.Kernel.τ Cert.Kernel.sig) → Buf (Elt Bits) ℓ) (g : Dev Cert.Kernel.nD → PrngReg)
    (hpi : ∀ c : Dev Cert.Kernel.nD, m ((c.tc : Thread Cert.Kernel.nD Cert.Kernel.τ).loc Cert.Kernel.main_arg1) = perm (F := Bits) b) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  run_same m g ((θ_run Cert.KernelIdeal.defs _ _).mono (fun _ h => ⟨fun c => (h.1 c).2, h.2⟩) (run_main (F := Bits) b m g hpi))

/-- The idealized kernel, for either permutation. -/
theorem ideal_frame (b : Bool) (m : (ℓ : Loc Cert.KernelIdeal.nD Cert.KernelIdeal.τ Cert.KernelIdeal.sig) → Buf (Elt Ideal) ℓ) (g : Dev Cert.KernelIdeal.nD → PrngReg)
    (hpi : Permuted (F := Ideal) b m) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_main (F := Ideal) b m g hpi)

/-- The reference, of whatever arguments. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun _ h => ⟨fun c => (h.1 c).2, h.2⟩) (run_ref (F := Ideal) m g)

/-! ## The values -/

/-- For either permutation, the kernel's devices end with the parts of the reference's result. -/
theorem same_value (b : Bool)
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpi : Permuted (F := Ideal) b m)
    (hm : ∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hp : m' (((0 : Dev Cert.ReferenceIdeal.nD).tc : Thread Cert.ReferenceIdeal.nD Cert.ReferenceIdeal.τ).loc Cert.ReferenceIdeal.main_arg1) = perm (F := Ideal) b :=
    (hm 0).2.symm.trans (hpi 0)
  refine ⟨refOut (F := Ideal) (m' (((0 : Dev Cert.ReferenceIdeal.nD).tc : Thread Cert.ReferenceIdeal.nD Cert.ReferenceIdeal.τ).loc Cert.ReferenceIdeal.main_arg0)) (perm (F := Ideal) b), ?_, ?_⟩
  · exact (θ_run Cert.KernelIdeal.defs _ _).mono
      (fun _ h c => ⟨((h.1 c).1).trans (outAt_part b m _ (fun d => (hm d).1) c), (h.1 c).2⟩) (run_main (F := Ideal) b m g hpi)
  · exact (θ_run Cert.ReferenceIdeal.defs _ _).mono
      (fun _ h => ⟨((h.1 0).1).trans (congrArg (refOut (F := Ideal) _) hp), (h.1 0).2⟩) (run_ref (F := Ideal) m' g')

/-! ## All of them -/

theorem claim : Cert.Claim :=
  ⟨Cert.Kernel.Gen.facts, Cert.KernelIdeal.Gen.facts, Cert.ReferenceIdeal.Gen.facts, Cert.Pre_swaps_Kernel.Gen.facts, Cert.Pre_keeps_Kernel.Gen.facts,
    Cert.Pre_swaps_ReferenceIdeal.Gen.facts, Cert.Pre_keeps_ReferenceIdeal.Gen.facts,
    fun m g h => kernel_frame true m g fun c => perm_of_swaps (F := Bits) _ _ (h c),
    fun m g h => kernel_frame false m g fun c => perm_of_keeps (F := Bits) _ _ (h c),
    fun m g h => ideal_frame true m g fun c => perm_of_swaps (F := Ideal) _ _ (h c),
    fun m g h => ideal_frame false m g fun c => perm_of_keeps (F := Ideal) _ _ (h c),
    fun m g _ => ref_frame m g,
    fun m g _ => ref_frame m g,
    fun m g _ => ref_frame m g,
    trivial,
    fun m g m' g' h hm => same_value true m g m' g' (fun c => perm_of_swaps (F := Ideal) _ _ (h c)) hm,
    fun m g m' g' h hm => same_value false m g m' g' (fun c => perm_of_keeps (F := Ideal) _ _ (h c)) hm⟩

end Cert.Proof

end
